-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_labels_positive [hPre_labels_positive : Cert.Pre_labels_positive.Facts] (m : (ℓ : Loc Cert.KernelIdeal.nD Cert.KernelIdeal.τ Cert.KernelIdeal.sig) → Buf (Elt Ideal) ℓ) : Prop :=
  ∀ c : Dev Cert.KernelIdeal.nD,
    (Cert.Pre_labels_positive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_KernelIdeal_labels_and_logits [hPre_labels_and_logits : Cert.Pre_labels_and_logits.Facts] (m : (ℓ : Loc Cert.KernelIdeal.nD Cert.KernelIdeal.τ Cert.KernelIdeal.sig) → Buf (Elt Ideal) ℓ) : Prop :=
  ∀ c : Dev Cert.KernelIdeal.nD,
    (Cert.Pre_labels_and_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_positive [hPre_labels_positive : Cert.Pre_labels_positive.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_positive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_labels_positive [hKernelIdeal : Cert.KernelIdeal.Facts] [hPre_labels_positive : Cert.Pre_labels_positive.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_labels_positive m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_labels_and_logits [hKernelIdeal : Cert.KernelIdeal.Facts] [hPre_labels_and_logits : Cert.Pre_labels_and_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_labels_and_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_labels_positive [hReferenceIdeal : Cert.ReferenceIdeal.Facts] [hPre_labels_positive : Cert.Pre_labels_positive.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_positive m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_on_first_result_pre_labels_positive [hKernelIdeal : Cert.KernelIdeal.Facts] [hReferenceIdeal : Cert.ReferenceIdeal.Facts] [hPre_labels_positive : Cert.Pre_labels_positive.Facts] [hOn_first_result : Cert.On_first_result.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_labels_positive m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![1, 1]⟩ : Shape).Idx, (Cert.On_first_result.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.KernelIdeal.nD Cert.KernelIdeal.τ).loc Cert.KernelIdeal.main_v6_0) i = v0 c i)
          ∧ (∀ i : (⟨2, ![1, 1]⟩ : Shape).Idx, (Cert.On_first_result.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 i = 1#1 → r.2.mem ((c.tc : Thread Cert.KernelIdeal.nD Cert.KernelIdeal.τ).loc Cert.KernelIdeal.main_v6_1) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![1, 1]⟩ : Shape).Idx, (Cert.On_first_result.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.ReferenceIdeal.nD Cert.ReferenceIdeal.τ).loc Cert.ReferenceIdeal.main_v146) i = v0 c i)
          ∧ (∀ i : (⟨2, ![1, 1]⟩ : Shape).Idx, (Cert.On_first_result.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 i = 1#1 → r.2.mem ((c.tc : Thread Cert.ReferenceIdeal.nD Cert.ReferenceIdeal.τ).loc Cert.ReferenceIdeal.main_v148) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def holds_KernelIdeal_loss_c_close_pre_labels_and_logits [hKernelIdeal : Cert.KernelIdeal.Facts] [hPre_labels_and_logits : Cert.Pre_labels_and_logits.Facts] [hPost_loss_c_close : Cert.Post_loss_c_close.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_labels_and_logits m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ (Cert.Post_loss_c_close.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (r.2.mem ((c.tc : Thread Cert.KernelIdeal.nD Cert.KernelIdeal.τ).loc Cert.KernelIdeal.main_v6_0)) (r.2.mem ((c.tc : Thread Cert.KernelIdeal.nD Cert.KernelIdeal.τ).loc Cert.KernelIdeal.main_v6_1))) = (fun _ => 1#1))

def Claim : Prop :=
  ∃ (hKernel : Cert.Kernel.Facts) (hKernelIdeal : Cert.KernelIdeal.Facts) (hReferenceIdeal : Cert.ReferenceIdeal.Facts) (hPre_labels_positive : Cert.Pre_labels_positive.Facts) (hPre_labels_and_logits : Cert.Pre_labels_and_logits.Facts) (hPost_loss_c_close : Cert.Post_loss_c_close.Facts) (hOn_first_result : Cert.On_first_result.Facts),
    quiescent_Kernel (hKernel := hKernel)
    ∧ quiescent_KernelIdeal (hKernelIdeal := hKernelIdeal)
    ∧ quiescent_KernelIdeal_pre_labels_positive (hKernelIdeal := hKernelIdeal) (hPre_labels_positive := hPre_labels_positive)
    ∧ quiescent_KernelIdeal_pre_labels_and_logits (hKernelIdeal := hKernelIdeal) (hPre_labels_and_logits := hPre_labels_and_logits)
    ∧ quiescent_ReferenceIdeal (hReferenceIdeal := hReferenceIdeal)
    ∧ quiescent_ReferenceIdeal_pre_labels_positive (hReferenceIdeal := hReferenceIdeal) (hPre_labels_positive := hPre_labels_positive)
    ∧ preserves_Kernel_KernelIdeal
    ∧ algebraic_KernelIdeal_ReferenceIdeal_on_first_result_pre_labels_positive (hKernelIdeal := hKernelIdeal) (hReferenceIdeal := hReferenceIdeal) (hPre_labels_positive := hPre_labels_positive) (hOn_first_result := hOn_first_result)
    ∧ holds_KernelIdeal_loss_c_close_pre_labels_and_logits (hKernelIdeal := hKernelIdeal) (hPre_labels_and_logits := hPre_labels_and_logits) (hPost_loss_c_close := hPost_loss_c_close)
-- ==== On_first_result.lean ====
abbrev S32x8732x4 : Shape := ⟨3, ![32, 8732, 4]⟩
abbrev S32x8732x81 : Shape := ⟨3, ![32, 8732, 81]⟩
abbrev S8732x4 : Shape := ⟨2, ![8732, 4]⟩
abbrev S32x32x4 : Shape := ⟨3, ![32, 32, 4]⟩
abbrev S32x32 : Shape := ⟨2, ![32, 32]⟩
abbrev S_ : Shape := ⟨0, ![]⟩
abbrev S1x1 : Shape := ⟨2, ![1, 1]⟩

class Facts : Prop where
  bcast_S_S1x1 : S_.BroadcastsInDim S1x1 (![] : Fin 0 → Fin S1x1.rank)

variable [Facts]

def fn {F : FTy → Type} [FloatOps F] (main_arg0 : FVec F S32x8732x4 .f32) (main_arg1 : FVec F S32x8732x81 .f32) (main_arg2 : FVec F S8732x4 .f32) (main_arg3 : FVec F S32x32x4 .f32) (main_arg4 : IVec S32x32 32) : IVec S1x1 1 × IVec S1x1 1 :=
  let main_c : IVec S_ 1 := constantI S_ 1 1#1
  let main_v0 : IVec S1x1 1 := broadcastInDim S1x1 ![] bcast_S_S1x1 main_c
  let main_c_0 : IVec S_ 1 := constantI S_ 1 0#1
  let main_v1 : IVec S1x1 1 := broadcastInDim S1x1 ![] bcast_S_S1x1 main_c_0
  (main_v0, main_v1)
-- ==== Post_loss_c_close.lean ====
abbrev S32x8732x4 : Shape := ⟨3, ![32, 8732, 4]⟩
abbrev S32x8732x81 : Shape := ⟨3, ![32, 8732, 81]⟩
abbrev S8732x4 : Shape := ⟨2, ![8732, 4]⟩
abbrev S32x32x4 : Shape := ⟨3, ![32, 32, 4]⟩
abbrev S32x32 : Shape := ⟨2, ![32, 32]⟩
abbrev S1x1 : Shape := ⟨2, ![1, 1]⟩
abbrev S32x32x2 : Shape := ⟨3, ![32, 32, 2]⟩
abbrev S32x32x1x2 : Shape := ⟨4, ![32, 32, 1, 2]⟩
abbrev S8732x2 : Shape := ⟨2, ![8732, 2]⟩
abbrev S1x8732x2 : Shape := ⟨3, ![1, 8732, 2]⟩
abbrev S1x1x8732x2 : Shape := ⟨4, ![1, 1, 8732, 2]⟩
abbrev S32x32x8732x2 : Shape := ⟨4, ![32, 32, 8732, 2]⟩
abbrev S_ : Shape := ⟨0, ![]⟩
abbrev S32x32x8732x1 : Shape := ⟨4, ![32, 32, 8732, 1]⟩
abbrev S32x32x8732 : Shape := ⟨3, ![32, 32, 8732]⟩
abbrev S32x32x1 : Shape := ⟨3, ![32, 32, 1]⟩
abbrev S8732x1 : Shape := ⟨2, ![8732, 1]⟩
abbrev S8732 : Shape := ⟨1, ![8732]⟩
abbrev S1x8732 : Shape := ⟨2, ![1, 8732]⟩
abbrev S1x1x8732 : Shape := ⟨3, ![1, 1, 8732]⟩
abbrev S32x8732 : Shape := ⟨2, ![32, 8732]⟩
abbrev S32x8732x1 : Shape := ⟨3, ![32, 8732, 1]⟩
abbrev S32x8732x2 : Shape := ⟨3, ![32, 8732, 2]⟩
abbrev S32x8732x1x1 : Shape := ⟨4, ![32, 8732, 1, 1]⟩
abbrev S1 : Shape := ⟨1, ![1]⟩
abbrev S1x1x1x1 : Shape := ⟨4, ![1, 1, 1, 1]⟩
abbrev S32 : Shape := ⟨1, ![32]⟩
abbrev S32x1 : Shape := ⟨2, ![32, 1]⟩

class Facts : Prop where
  slices_S32x32x4_S32x32x2_0_0_0 : S32x32x4.Slices ![0, 0, 0] S32x32x2
  bcast_S32x32x2_S32x32x1x2_0_1_3 : S32x32x2.BroadcastsInDim S32x32x1x2 (![0, 1, 3] : Fin 3 → Fin S32x32x1x2.rank)
  slices_S8732x4_S8732x2_0_0 : S8732x4.Slices ![0, 0] S8732x2
  bcast_S8732x2_S1x8732x2_1_2 : S8732x2.BroadcastsInDim S1x8732x2 (![1, 2] : Fin 2 → Fin S1x8732x2.rank)
  bcast_S1x8732x2_S1x1x8732x2_1_2_3 : S1x8732x2.BroadcastsInDim S1x1x8732x2 (![1, 2, 3] : Fin 3 → Fin S1x1x8732x2.rank)
  bcast_S32x32x1x2_S32x32x8732x2_0_1_2_3 : S32x32x1x2.BroadcastsInDim S32x32x8732x2 (![0, 1, 2, 3] : Fin 4 → Fin S32x32x8732x2.rank)
  bcast_S1x1x8732x2_S32x32x8732x2_0_1_2_3 : S1x1x8732x2.BroadcastsInDim S32x32x8732x2 (![0, 1, 2, 3] : Fin 4 → Fin S32x32x8732x2.rank)
  slices_S32x32x4_S32x32x2_0_0_2 : S32x32x4.Slices ![0, 0, 2] S32x32x2
  slices_S8732x4_S8732x2_0_2 : S8732x4.Slices ![0, 2] S8732x2
  bcast_S_S32x32x8732x2 : S_.BroadcastsInDim S32x32x8732x2 (![] : Fin 0 → Fin S32x32x8732x2.rank)
  slices_S32x32x8732x2_S32x32x8732x1_0_0_0_0 : S32x32x8732x2.Slices ![0, 0, 0, 0] S32x32x8732x1
  shapeCasts_S32x32x8732x1_S32x32x8732 : S32x32x8732x1.ShapeCasts S32x32x8732
  slices_S32x32x8732x2_S32x32x8732x1_0_0_0_1 : S32x32x8732x2.Slices ![0, 0, 0, 1] S32x32x8732x1
  slices_S32x32x4_S32x32x1_0_0_2 : S32x32x4.Slices ![0, 0, 2] S32x32x1
  shapeCasts_S32x32x1_S32x32 : S32x32x1.ShapeCasts S32x32
  slices_S32x32x4_S32x32x1_0_0_0 : S32x32x4.Slices ![0, 0, 0] S32x32x1
  slices_S32x32x4_S32x32x1_0_0_3 : S32x32x4.Slices ![0, 0, 3] S32x32x1
  slices_S32x32x4_S32x32x1_0_0_1 : S32x32x4.Slices ![0, 0, 1] S32x32x1
  bcast_S32x32_S32x32x1_0_1 : S32x32.BroadcastsInDim S32x32x1 (![0, 1] : Fin 2 → Fin S32x32x1.rank)
  slices_S8732x4_S8732x1_0_2 : S8732x4.Slices ![0, 2] S8732x1
  shapeCasts_S8732x1_S8732 : S8732x1.ShapeCasts S8732
  slices_S8732x4_S8732x1_0_0 : S8732x4.Slices ![0, 0] S8732x1
  slices_S8732x4_S8732x1_0_3 : S8732x4.Slices ![0, 3] S8732x1
  slices_S8732x4_S8732x1_0_1 : S8732x4.Slices ![0, 1] S8732x1
  bcast_S8732_S1x8732_1 : S8732.BroadcastsInDim S1x8732 (![1] : Fin 1 → Fin S1x8732.rank)
  bcast_S1x8732_S1x1x8732_1_2 : S1x8732.BroadcastsInDim S1x1x8732 (![1, 2] : Fin 2 → Fin S1x1x8732.rank)
  bcast_S32x32x1_S32x32x8732_0_1_2 : S32x32x1.BroadcastsInDim S32x32x8732 (![0, 1, 2] : Fin 3 → Fin S32x32x8732.rank)
  bcast_S1x1x8732_S32x32x8732_0_1_2 : S1x1x8732.BroadcastsInDim S32x32x8732 (![0, 1, 2] : Fin 3 → Fin S32x32x8732.rank)
  reducesTo_S32x32x8732_S32x8732_d1 : S32x32x8732.ReducesTo [1] S32x8732
  h_S_ : 0 < S_.numel
  bcast_S_S32x8732 : S_.BroadcastsInDim S32x8732 (![] : Fin 0 → Fin S32x8732.rank)
  bcast_S32x8732_S32x8732x1_0_1 : S32x8732.BroadcastsInDim S32x8732x1 (![0, 1] : Fin 2 → Fin S32x8732x1.rank)
  bcast_S_S8732 : S_.BroadcastsInDim S8732 (![] : Fin 0 → Fin S8732.rank)
  bcast_S8732_S32x8732_1 : S8732.BroadcastsInDim S32x8732 (![1] : Fin 1 → Fin S32x8732.rank)
  slices_S32x8732x4_S32x8732x2_0_0_2 : S32x8732x4.Slices ![0, 0, 2] S32x8732x2
  slices_S32x8732x4_S32x8732x2_0_0_0 : S32x8732x4.Slices ![0, 0, 0] S32x8732x2
  bcast_S_S8732x2 : S_.BroadcastsInDim S8732x2 (![] : Fin 0 → Fin S8732x2.rank)
  bcast_S_S32x8732x2 : S_.BroadcastsInDim S32x8732x2 (![] : Fin 0 → Fin S32x8732x2.rank)
  bcast_S1x8732x2_S32x8732x2_0_1_2 : S1x8732x2.BroadcastsInDim S32x8732x2 (![0, 1, 2] : Fin 3 → Fin S32x8732x2.rank)
  concatenates_S32x8732x2_S32x8732x2_S32x8732x4_d2 : Shape.Concatenates [S32x8732x2, S32x8732x2] S32x8732x4 2
  reducesTo_S32x8732x81_S32x8732_d2 : S32x8732x81.ReducesTo [2] S32x8732
  bcast_S32x8732x1_S32x8732x81_0_1_2 : S32x8732x1.BroadcastsInDim S32x8732x81 (![0, 1, 2] : Fin 3 → Fin S32x8732x81.rank)
  bcast_S_S32x8732x1 : S_.BroadcastsInDim S32x8732x1 (![] : Fin 0 → Fin S32x8732x1.rank)
  shapeCasts_S32x8732x1_S32x8732x1x1 : S32x8732x1.ShapeCasts S32x8732x1x1
  bcast_S_S32x8732x1x1 : S_.BroadcastsInDim S32x8732x1x1 (![] : Fin 0 → Fin S32x8732x1x1.rank)
  bcast_S1_S1x1x1x1_3 : S1.BroadcastsInDim S1x1x1x1 (![3] : Fin 1 → Fin S1x1x1x1.rank)
  bcast_S1x1x1x1_S32x8732x1x1_0_1_2_3 : S1x1x1x1.BroadcastsInDim S32x8732x1x1 (![0, 1, 2, 3] : Fin 4 → Fin S32x8732x1x1.rank)
  reducesTo_S32x8732x1x1_S32x8732x1_d3 : S32x8732x1x1.ReducesTo [3] S32x8732x1
  shapeCasts_S32x8732x1_S32x8732 : S32x8732x1.ShapeCasts S32x8732
  natLt_1_32 : 1 < 32
  reducesTo_S32x8732_S32_d1 : S32x8732.ReducesTo [1] S32
  bcast_S32_S32x1_0 : S32.BroadcastsInDim S32x1 (![0] : Fin 1 → Fin S32x1.rank)
  bcast_S_S32x1 : S_.BroadcastsInDim S32x1 (![] : Fin 0 → Fin S32x1.rank)
  bcast_S32x1_S32x8732_0_1 : S32x1.BroadcastsInDim S32x8732 (![0, 1] : Fin 2 → Fin S32x8732.rank)
  reducesTo_S32x8732_S_d0_1 : S32x8732.ReducesTo [0, 1] S_
  reducesTo_S32x1_S_d0_1 : S32x1.ReducesTo [0, 1] S_
  reducesTo_S32_S_d0 : S32.ReducesTo [0] S_
  bcast_S_S1x1 : S_.BroadcastsInDim S1x1 (![] : Fin 0 → Fin S1x1.rank)
  gather_S32x32_S32x8732x1_S32x8732_n_1_0_0_1_2_11_wf : GatherDims.WF S32x32 S32x8732x1 S32x8732 [] [1] [0] [1] [0] 2 ![1, 1]
  gather_S32x32x4_S32x8732x1_S32x8732x4_2_1_0_0_1_2_114_wf : GatherDims.WF S32x32x4 S32x8732x1 S32x8732x4 [2] [1] [0] [1] [0] 2 ![1, 1, 4]
  gather_S32x8732x81_S32x8732x1x1_S32x8732x1_n_2_01_01_2_3_111_wf : GatherDims.WF S32x8732x81 S32x8732x1x1 S32x8732x1 [] [2] [0, 1] [2] [0, 1] 3 ![1, 1, 1]

variable [Facts]

variable {F : FTy → Type} [FloatOps F]
def reducer_argmax_f32_i32 : F .f32 × BitVec 32 → F .f32 × BitVec 32 → F .f32 × BitVec 32 :=
  fun a b =>
    let v2 := FloatOps.cmpf .ogt a.1 b.1
    let v3 := FloatOps.cmpf .une a.1 a.1
    let v4 := IntOp.ori v2 v3
    let v5 := FloatOps.cmpf .oeq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)
def gather_S32x32_S32x8732x1_S32x8732_n_1_0_0_1_2_11 : GatherDims S32x32 S32x8732x1 S32x8732 where
  offsetDims := []
  collapsedSliceDims := [1]
  operandBatchingDims := [0]
  startIndicesBatchingDims := [0]
  startIndexMap := [1]
  indexVectorDim := 2
  sliceSizes := ![1, 1]
  wf := gather_S32x32_S32x8732x1_S32x8732_n_1_0_0_1_2_11_wf
def gather_S32x32x4_S32x8732x1_S32x8732x4_2_1_0_0_1_2_114 : GatherDims S32x32x4 S32x8732x1 S32x8732x4 where
  offsetDims := [2]
  collapsedSliceDims := [1]
  operandBatchingDims := [0]
  startIndicesBatchingDims := [0]
  startIndexMap := [1]
  indexVectorDim := 2
  sliceSizes := ![1, 1, 4]
  wf := gather_S32x32x4_S32x8732x1_S32x8732x4_2_1_0_0_1_2_114_wf
def gather_S32x8732x81_S32x8732x1x1_S32x8732x1_n_2_01_01_2_3_111 : GatherDims S32x8732x81 S32x8732x1x1 S32x8732x1 where
  offsetDims := []
  collapsedSliceDims := [2]
  operandBatchingDims := [0, 1]
  startIndicesBatchingDims := [0, 1]
  startIndexMap := [2]
  indexVectorDim := 3
  sliceSizes := ![1, 1, 1]
  wf := gather_S32x8732x81_S32x8732x1x1_S32x8732x1_n_2_01_01_2_3_111_wf
def comparator_f32_i32_d1 : F .f32 × BitVec 32 → F .f32 × BitVec 32 → BitVec 1 :=
  fun l r =>
    let cst := FloatOps.ofBits .f32 0x00000000#32
    let v2 := FloatOps.cmpf .oeq l.1 cst
    let cst_0 := FloatOps.ofBits .f32 0x00000000#32
    let v3 := Scalar.select v2 cst_0 l.1
    let v4 := FloatOps.cmpf .une l.1 l.1
    let cst_1 := FloatOps.ofBits .f32 0x7FC00000#32
    let v5 := Scalar.select v4 cst_1 v3
    let cst_2 := FloatOps.ofBits .f32 0x00000000#32
    let v6 := FloatOps.cmpf .oeq r.1 cst_2
    let cst_3 := FloatOps.ofBits .f32 0x00000000#32
    let v7 := Scalar.select v6 cst_3 r.1
    let v8 := FloatOps.cmpf .une r.1 r.1
    let cst_4 := FloatOps.ofBits .f32 0x7FC00000#32
    let v9 := Scalar.select v8 cst_4 v7
    let v10 := FloatOps.cmpfTotal .lt v5 v9
    v10
def comparator_i32_i32_d1 : BitVec 32 × BitVec 32 → BitVec 32 × BitVec 32 → BitVec 1 :=
  fun l r =>
    let v2 := IntOp.cmpi .slt l.1 r.1
    v2

def fn_clip {F : FTy → Type} [FloatOps F] (arg0 : FVec F S32x32x8732x2 .f32) (arg1 : FVec F S_ .f32) : FVec F S32x32x8732x2 .f32 :=
  let v0 : FVec F S_ .f32 := id arg1
  let v1 : FVec F S32x32x8732x2 .f32 := broadcastInDim S32x32x8732x2 ![] bcast_S_S32x32x8732x2 v0
  let v2 : FVec F S32x32x8732x2 .f32 := maximumf v1 arg0
  v2

def fn_argmax {F : FTy → Type} [FloatOps F] (arg0 : FVec F S32x32x8732 .f32) : IVec S32x8732 32 :=
  let v0 : IVec S32x32x8732 32 := iotaInDim S32x32x8732 32 1
  let cst : FVec F S_ .f32 := constant S_ .f32 0xFF800000#32
  let c : IVec S_ 32 := constantI S_ 32 0#32
  let v1_0 : FVec F S32x8732 .f32 := (fun x y u v j => (Host.argReduce reducer_argmax_f32_i32 x y u v reducesTo_S32x32x8732_S32x8732_d1 h_S_ j).1) arg0 v0 cst c
  let v1_1 : IVec S32x8732 32 := (fun x y u v j => (Host.argReduce reducer_argmax_f32_i32 x y u v reducesTo_S32x32x8732_S32x8732_d1 h_S_ j).2) arg0 v0 cst c
  v1_1

def fn_where {F : FTy → Type} [FloatOps F] (arg0 : IVec S32x8732 1) (arg1 : IVec S_ 32) (arg2 : IVec S32x8732 32) : IVec S32x8732 32 :=
  let v0 : IVec S_ 32 := id arg1
  let v1 : IVec S8732 32 := broadcastInDim S8732 ![] bcast_S_S8732 v0
  let v2 : IVec S32x8732 32 := broadcastInDim S32x8732 ![1] bcast_S8732_S32x8732_1 v1
  let v3 : IVec S32x8732 32 := select arg0 v2 arg2
  v3

def fn_log_softmax {F : FTy → Type} [FloatOps F] (arg0 : FVec F S32x8732x81 .f32) : FVec F S32x8732x81 .f32 :=
  let cst : FVec F S_ .f32 := constant S_ .f32 0xFF800000#32
  let v0 : FVec F S32x8732 .f32 := (fun x v => Host.reduce FloatOps.maximumf x v reducesTo_S32x8732x81_S32x8732_d2 h_S_) arg0 cst
  let cst_0 : FVec F S_ .f32 := constant S_ .f32 0xFF800000#32
  let v1 : FVec F S32x8732 .f32 := broadcastInDim S32x8732 ![] bcast_S_S32x8732 cst_0
  let v2 : FVec F S32x8732 .f32 := maximumf v1 v0
  let v3 : FVec F S32x8732x1 .f32 := broadcastInDim S32x8732x1 ![0, 1] bcast_S32x8732_S32x8732x1_0_1 v2
  let v4 : FVec F S32x8732x81 .f32 := broadcastInDim S32x8732x81 ![0, 1, 2] bcast_S32x8732x1_S32x8732x81_0_1_2 v3
  let v5 : FVec F S32x8732x81 .f32 := subf arg0 v4
  let v6 : FVec F S32x8732x81 .f32 := Host.exp v5
  let cst_1 : FVec F S_ .f32 := constant S_ .f32 0x00000000#32
  let v7 : FVec F S32x8732 .f32 := (fun x v => Host.reduceAdd x v reducesTo_S32x8732x81_S32x8732_d2 h_S_) v6 cst_1
  let v8 : FVec F S32x8732x1 .f32 := broadcastInDim S32x8732x1 ![0, 1] bcast_S32x8732_S32x8732x1_0_1 v7
  let v9 : FVec F S32x8732x1 .f32 := Host.log v8
  let v10 : FVec F S32x8732x81 .f32 := broadcastInDim S32x8732x81 ![0, 1, 2] bcast_S32x8732x1_S32x8732x81_0_1_2 v9
  let v11 : FVec F S32x8732x81 .f32 := subf v5 v10
  v11

def fn_take_along_axis {F : FTy → Type} [FloatOps F] (arg0 : FVec F S32x8732x81 .f32) (arg1 : IVec S32x8732x1 32) : FVec F S32x8732x1 .f32 :=
  let c : IVec S_ 32 := constantI S_ 32 0#32
  let v0 : IVec S32x8732x1 32 := broadcastInDim S32x8732x1 ![] bcast_S_S32x8732x1 c
  let v1 : IVec S32x8732x1 1 := cmpi .slt arg1 v0
  let c_0 : IVec S_ 32 := constantI S_ 32 81#32
  let v2 : IVec S32x8732x1 32 := broadcastInDim S32x8732x1 ![] bcast_S_S32x8732x1 c_0
  let v3 : IVec S32x8732x1 32 := addi arg1 v2
  let v4 : IVec S32x8732x1 32 := select v1 v3 arg1
  let v5 : IVec S32x8732x1x1 32 := shapeCast S32x8732x1x1 v4 shapeCasts_S32x8732x1_S32x8732x1x1
  let c_1 : IVec S1 32 := constantI S1 32 80#32
  let c_2 : IVec S_ 32 := constantI S_ 32 0#32
  let v6 : IVec S32x8732x1x1 32 := broadcastInDim S32x8732x1x1 ![] bcast_S_S32x8732x1x1 c_2
  let v7 : IVec S32x8732x1x1 1 := cmpi .sge v5 v6
  let v8 : IVec S1x1x1x1 32 := broadcastInDim S1x1x1x1 ![3] bcast_S1_S1x1x1x1_3 c_1
  let v9 : IVec S32x8732x1x1 32 := broadcastInDim S32x8732x1x1 ![0, 1, 2, 3] bcast_S1x1x1x1_S32x8732x1x1_0_1_2_3 v8
  let v10 : IVec S32x8732x1x1 1 := cmpi .sle v5 v9
  let v11 : IVec S32x8732x1x1 1 := andi v7 v10
  let c_3 : IVec S_ 1 := constantI S_ 1 1#1
  let v12 : IVec S32x8732x1 1 := (fun x v => Host.reduce IntOp.andi x v reducesTo_S32x8732x1x1_S32x8732x1_d3 h_S_) v11 c_3
  let v13 : FVec F S32x8732x1 .f32 := (fun x i => Host.gather gather_S32x8732x81_S32x8732x1x1_S32x8732x1_n_2_01_01_2_3_111 x i) arg0 v5
  let cst : FVec F S_ .f32 := constant S_ .f32 0x7FC00000#32
  let v14 : FVec F S32x8732x1 .f32 := broadcastInDim S32x8732x1 ![] bcast_S_S32x8732x1 cst
  let v15 : FVec F S32x8732x1 .f32 := select v12 v13 v14
  v15

def fn_where_0 {F : FTy → Type} [FloatOps F] (arg0 : IVec S32x8732 1) (arg1 : FVec F S_ .f32) (arg2 : FVec F S32x8732 .f32) : FVec F S32x8732 .f32 :=
  let v0 : FVec F S_ .f32 := id arg1
  let v1 : FVec F S32x8732 .f32 := broadcastInDim S32x8732 ![] bcast_S_S32x8732 v0
  let v2 : FVec F S32x8732 .f32 := select arg0 v1 arg2
  v2

def fn_argsort {F : FTy → Type} [FloatOps F] (arg0 : FVec F S32x8732 .f32) : IVec S32x8732 32 :=
  let v0 : IVec S32x8732 32 := iotaInDim S32x8732 32 1
  let v1_0 : FVec F S32x8732 .f32 := (fun x y => (Host.sort2 S32x8732 1 comparator_f32_i32_d1 x y).1) arg0 v0
  let v1_1 : IVec S32x8732 32 := (fun x y => (Host.sort2 S32x8732 1 comparator_f32_i32_d1 x y).2) arg0 v0
  v1_1

def fn_argsort_1 {F : FTy → Type} [FloatOps F] (arg0 : IVec S32x8732 32) : IVec S32x8732 32 :=
  let v0 : IVec S32x8732 32 := iotaInDim S32x8732 32 1
  let v1_0 : IVec S32x8732 32 := (fun x y => (Host.sort2 S32x8732 1 comparator_i32_i32_d1 x y).1) arg0 v0
  let v1_1 : IVec S32x8732 32 := (fun x y => (Host.sort2 S32x8732 1 comparator_i32_i32_d1 x y).2) arg0 v0
  v1_1

def fn_part6 {F : FTy → Type} [FloatOps F] (main_arg6 : FVec F S1x1 .f32) (main_v110 : FVec F S32x8732 .f32) (main_v116 : IVec S32x1 32) (main_v125 : FVec F S32x8732 .f32) (main_cst_15 : FVec F S_ .f32) : IVec S1x1 1 :=
  let main_v126 : FVec F S_ .f32 := (fun x v => Host.reduceAdd x v reducesTo_S32x8732_S_d0_1 h_S_) main_v125 main_cst_15
  let main_c_16 : IVec S_ 32 := constantI S_ 32 0#32
  let main_v127 : IVec S_ 32 := (fun x v => Host.reduce IntOp.addi x v reducesTo_S32x1_S_d0_1 h_S_) main_v116 main_c_16
  let main_c_17 : IVec S_ 32 := constantI S_ 32 1#32
  let main_v128 : IVec S_ 32 := maxsi main_v127 main_c_17
  let main_v129 : FVec F S_ .f32 := sitofp .f32 main_v128
  let main_cst_18 : FVec F S_ .f32 := constant S_ .f32 0xFF800000#32
  let main_v130 : FVec F S32 .f32 := (fun x v => Host.reduce FloatOps.maximumf x v reducesTo_S32x8732_S32_d1 h_S_) main_v110 main_cst_18
  let main_cst_19 : FVec F S_ .f32 := constant S_ .f32 0x00000000#32
  let main_v131 : FVec F S_ .f32 := (fun x v => Host.reduceAdd x v reducesTo_S32_S_d0 h_S_) main_v130 main_cst_19
  let main_cst_20 : FVec F S_ .f32 := constant S_ .f32 0x36887000#32
  let main_v132 : FVec F S_ .f32 := mulf main_cst_20 main_v131
  let main_v133 : FVec F S_ .f32 := Host.divf main_v132 main_v129
  let main_v134 : FVec F S_ .f32 := Host.divf main_v126 main_v129
  let main_v135 : FVec F S1x1 .f32 := broadcastInDim S1x1 ![] bcast_S_S1x1 main_v134
  let main_v136 : FVec F S1x1 .f32 := subf main_arg6 main_v135
  let main_v137 : FVec F S1x1 .f32 := Host.absf main_v136
  let main_v138 : FVec F S1x1 .f32 := broadcastInDim S1x1 ![] bcast_S_S1x1 main_v133
  let main_v139 : IVec S1x1 1 := cmpf .ole main_v137 main_v138
  main_v139

def fn_part5 {F : FTy → Type} [FloatOps F] (main_arg6 : FVec F S1x1 .f32) (main_v104 : IVec S32x8732 1) (main_v105 : FVec F S32x8732x81 .f32) (main_v106 : IVec S32x8732x1 32) : IVec S1x1 1 :=
  let main_v107 : FVec F S32x8732x1 .f32 := fn_take_along_axis (F := F) main_v105 main_v106
  let main_v108 : FVec F S32x8732 .f32 := shapeCast S32x8732 main_v107 shapeCasts_S32x8732x1_S32x8732
  let main_v109 : FVec F S32x8732 .f32 := Host.negf main_v108
  let main_cst_11 : FVec F S_ .f32 := constant S_ .f32 0x00000000#32
  let main_v110 : FVec F S32x8732 .f32 := fn_where_0 (F := F) main_v104 main_cst_11 main_v109
  let main_v111 : FVec F S32x8732 .f32 := Host.negf main_v110
  let main_v112 : IVec S32x8732 32 := fn_argsort (F := F) main_v111
  let main_v113 : IVec S32x8732 32 := fn_argsort_1 (F := F) main_v112
  let main_v114 : IVec S32x8732 32 := (extui 32 · natLt_1_32) main_v104
  let main_c_12 : IVec S_ 32 := constantI S_ 32 0#32
  let main_v115 : IVec S32 32 := (fun x v => Host.reduce IntOp.addi x v reducesTo_S32x8732_S32_d1 h_S_) main_v114 main_c_12
  let main_v116 : IVec S32x1 32 := broadcastInDim S32x1 ![0] bcast_S32_S32x1_0 main_v115
  let main_c_13 : IVec S_ 32 := constantI S_ 32 3#32
  let main_v117 : IVec S32x1 32 := broadcastInDim S32x1 ![] bcast_S_S32x1 main_c_13
  let main_v118 : IVec S32x1 32 := muli main_v116 main_v117
  let main_c_14 : IVec S_ 32 := constantI S_ 32 8732#32
  let main_v119 : IVec S32x1 32 := broadcastInDim S32x1 ![] bcast_S_S32x1 main_c_14
  let main_v120 : IVec S32x1 32 := minsi main_v118 main_v119
  let main_v121 : IVec S32x8732 32 := broadcastInDim S32x8732 ![0, 1] bcast_S32x1_S32x8732_0_1 main_v120
  let main_v122 : IVec S32x8732 1 := cmpi .slt main_v113 main_v121
  let main_v123 : IVec S32x8732 1 := ori main_v104 main_v122
  let main_v124 : FVec F S32x8732 .f32 := uitofp .f32 main_v123
  let main_v125 : FVec F S32x8732 .f32 := mulf main_v109 main_v124
  let main_cst_15 : FVec F S_ .f32 := constant S_ .f32 0x00000000#32
  fn_part6 (F := F) main_arg6 main_v110 main_v116 main_v125 main_cst_15

def fn_part4 {F : FTy → Type} [FloatOps F] (main_arg1 : FVec F S32x8732x81 .f32) (main_arg6 : FVec F S1x1 .f32) (main_v64 : IVec S32x8732 32) (main_v74 : FVec F S8732x2 .f32) (main_v77 : FVec F S32x8732x2 .f32) (main_v82 : FVec F S8732x2 .f32) (main_v85 : FVec F S32x8732x2 .f32) (main_cst_7 : FVec F S_ .f32) : IVec S1x1 1 :=
  let main_v86 : FVec F S32x8732x2 .f32 := broadcastInDim S32x8732x2 ![] bcast_S_S32x8732x2 main_cst_7
  let main_v87 : FVec F S32x8732x2 .f32 := mulf main_v85 main_v86
  let main_v88 : FVec F S1x8732x2 .f32 := broadcastInDim S1x8732x2 ![1, 2] bcast_S8732x2_S1x8732x2_1_2 main_v82
  let main_v89 : FVec F S32x8732x2 .f32 := broadcastInDim S32x8732x2 ![0, 1, 2] bcast_S1x8732x2_S32x8732x2_0_1_2 main_v88
  let main_v90 : FVec F S32x8732x2 .f32 := subf main_v87 main_v89
  let main_cst_8 : FVec F S_ .f32 := constant S_ .f32 0x41200000#32
  let main_v91 : FVec F S32x8732x2 .f32 := broadcastInDim S32x8732x2 ![] bcast_S_S32x8732x2 main_cst_8
  let main_v92 : FVec F S32x8732x2 .f32 := mulf main_v90 main_v91
  let main_v93 : FVec F S1x8732x2 .f32 := broadcastInDim S1x8732x2 ![1, 2] bcast_S8732x2_S1x8732x2_1_2 main_v74
  let main_v94 : FVec F S32x8732x2 .f32 := broadcastInDim S32x8732x2 ![0, 1, 2] bcast_S1x8732x2_S32x8732x2_0_1_2 main_v93
  let main_v95 : FVec F S32x8732x2 .f32 := Host.divf main_v92 main_v94
  let main_v96 : FVec F S1x8732x2 .f32 := broadcastInDim S1x8732x2 ![1, 2] bcast_S8732x2_S1x8732x2_1_2 main_v74
  let main_v97 : FVec F S32x8732x2 .f32 := broadcastInDim S32x8732x2 ![0, 1, 2] bcast_S1x8732x2_S32x8732x2_0_1_2 main_v96
  let main_v98 : FVec F S32x8732x2 .f32 := Host.divf main_v77 main_v97
  let main_v99 : FVec F S32x8732x2 .f32 := Host.log main_v98
  let main_cst_9 : FVec F S_ .f32 := constant S_ .f32 0x40A00000#32
  let main_v100 : FVec F S32x8732x2 .f32 := broadcastInDim S32x8732x2 ![] bcast_S_S32x8732x2 main_cst_9
  let main_v101 : FVec F S32x8732x2 .f32 := mulf main_v99 main_v100
  let main_v102 : FVec F S32x8732x4 .f32 := (fun a b => concatenate S32x8732x4 2 [⟨S32x8732x2, a⟩, ⟨S32x8732x2, b⟩] concatenates_S32x8732x2_S32x8732x2_S32x8732x4_d2) main_v95 main_v101
  let main_c_10 : IVec S_ 32 := constantI S_ 32 0#32
  let main_v103 : IVec S32x8732 32 := broadcastInDim S32x8732 ![] bcast_S_S32x8732 main_c_10
  let main_v104 : IVec S32x8732 1 := cmpi .sgt main_v64 main_v103
  let main_v105 : FVec F S32x8732x81 .f32 := fn_log_softmax (F := F) main_arg1
  let main_v106 : IVec S32x8732x1 32 := broadcastInDim S32x8732x1 ![0, 1] bcast_S32x8732_S32x8732x1_0_1 main_v64
  fn_part5 (F := F) main_arg6 main_v104 main_v105 main_v106

def fn_part3 {F : FTy → Type} [FloatOps F] (main_arg1 : FVec F S32x8732x81 .f32) (main_arg2 : FVec F S8732x4 .f32) (main_arg3 : FVec F S32x32x4 .f32) (main_arg6 : FVec F S1x1 .f32) (main_v54 : IVec S32x8732 32) (main_v64 : IVec S32x8732 32) (main_c_4 : IVec S_ 32) : IVec S1x1 1 :=
  let main_v65 : IVec S32x8732 32 := broadcastInDim S32x8732 ![] bcast_S_S32x8732 main_c_4
  let main_v66 : IVec S32x8732 1 := cmpi .slt main_v54 main_v65
  let main_c_5 : IVec S_ 32 := constantI S_ 32 32#32
  let main_v67 : IVec S32x8732 32 := broadcastInDim S32x8732 ![] bcast_S_S32x8732 main_c_5
  let main_v68 : IVec S32x8732 32 := addi main_v54 main_v67
  let main_v69 : IVec S32x8732 32 := select main_v66 main_v68 main_v54
  let main_v70 : IVec S32x8732x1 32 := broadcastInDim S32x8732x1 ![0, 1] bcast_S32x8732_S32x8732x1_0_1 main_v69
  let main_v71 : FVec F S32x8732x4 .f32 := (fun x i => Host.gather gather_S32x32x4_S32x8732x1_S32x8732x4_2_1_0_0_1_2_114 x i) main_arg3 main_v70
  let main_v72 : FVec F S8732x2 .f32 := (extractStridedSlice S8732x2 ![0, 2] · slices_S8732x4_S8732x2_0_2) main_arg2
  let main_v73 : FVec F S8732x2 .f32 := (extractStridedSlice S8732x2 ![0, 0] · slices_S8732x4_S8732x2_0_0) main_arg2
  let main_v74 : FVec F S8732x2 .f32 := subf main_v72 main_v73
  let main_v75 : FVec F S32x8732x2 .f32 := (extractStridedSlice S32x8732x2 ![0, 0, 2] · slices_S32x8732x4_S32x8732x2_0_0_2) main_v71
  let main_v76 : FVec F S32x8732x2 .f32 := (extractStridedSlice S32x8732x2 ![0, 0, 0] · slices_S32x8732x4_S32x8732x2_0_0_0) main_v71
  let main_v77 : FVec F S32x8732x2 .f32 := subf main_v75 main_v76
  let main_v78 : FVec F S8732x2 .f32 := (extractStridedSlice S8732x2 ![0, 0] · slices_S8732x4_S8732x2_0_0) main_arg2
  let main_v79 : FVec F S8732x2 .f32 := (extractStridedSlice S8732x2 ![0, 2] · slices_S8732x4_S8732x2_0_2) main_arg2
  let main_v80 : FVec F S8732x2 .f32 := addf main_v78 main_v79
  let main_cst_6 : FVec F S_ .f32 := constant S_ .f32 0x3F000000#32
  let main_v81 : FVec F S8732x2 .f32 := broadcastInDim S8732x2 ![] bcast_S_S8732x2 main_cst_6
  let main_v82 : FVec F S8732x2 .f32 := mulf main_v80 main_v81
  let main_v83 : FVec F S32x8732x2 .f32 := (extractStridedSlice S32x8732x2 ![0, 0, 0] · slices_S32x8732x4_S32x8732x2_0_0_0) main_v71
  let main_v84 : FVec F S32x8732x2 .f32 := (extractStridedSlice S32x8732x2 ![0, 0, 2] · slices_S32x8732x4_S32x8732x2_0_0_2) main_v71
  let main_v85 : FVec F S32x8732x2 .f32 := addf main_v83 main_v84
  let main_cst_7 : FVec F S_ .f32 := constant S_ .f32 0x3F000000#32
  fn_part4 (F := F) main_arg1 main_arg6 main_v64 main_v74 main_v77 main_v82 main_v85 main_cst_7

def fn_part2 {F : FTy → Type} [FloatOps F] (main_arg1 : FVec F S32x8732x81 .f32) (main_arg2 : FVec F S8732x4 .f32) (main_arg3 : FVec F S32x32x4 .f32) (main_arg4 : IVec S32x32 32) (main_arg6 : FVec F S1x1 .f32) (main_v22 : FVec F S32x32x8732 .f32) (main_v34 : FVec F S32x32x1 .f32) (main_v46 : FVec F S1x8732 .f32) : IVec S1x1 1 :=
  let main_v47 : FVec F S1x1x8732 .f32 := broadcastInDim S1x1x8732 ![1, 2] bcast_S1x8732_S1x1x8732_1_2 main_v46
  let main_v48 : FVec F S32x32x8732 .f32 := broadcastInDim S32x32x8732 ![0, 1, 2] bcast_S32x32x1_S32x32x8732_0_1_2 main_v34
  let main_v49 : FVec F S32x32x8732 .f32 := broadcastInDim S32x32x8732 ![0, 1, 2] bcast_S1x1x8732_S32x32x8732_0_1_2 main_v47
  let main_v50 : FVec F S32x32x8732 .f32 := addf main_v48 main_v49
  let main_v51 : FVec F S32x32x8732 .f32 := subf main_v50 main_v22
  let main_v52 : FVec F S32x32x8732 .f32 := Host.divf main_v22 main_v51
  let main_cst_0 : FVec F S_ .f32 := constant S_ .f32 0xFF800000#32
  let main_v53 : FVec F S32x8732 .f32 := (fun x v => Host.reduce FloatOps.maximumf x v reducesTo_S32x32x8732_S32x8732_d1 h_S_) main_v52 main_cst_0
  let main_v54 : IVec S32x8732 32 := fn_argmax (F := F) main_v52
  let main_cst_1 : FVec F S_ .f32 := constant S_ .f32 0x3F000000#32
  let main_v55 : FVec F S32x8732 .f32 := broadcastInDim S32x8732 ![] bcast_S_S32x8732 main_cst_1
  let main_v56 : IVec S32x8732 1 := cmpf .olt main_v53 main_v55
  let main_c : IVec S_ 32 := constantI S_ 32 0#32
  let main_v57 : IVec S32x8732 32 := broadcastInDim S32x8732 ![] bcast_S_S32x8732 main_c
  let main_v58 : IVec S32x8732 1 := cmpi .slt main_v54 main_v57
  let main_c_2 : IVec S_ 32 := constantI S_ 32 32#32
  let main_v59 : IVec S32x8732 32 := broadcastInDim S32x8732 ![] bcast_S_S32x8732 main_c_2
  let main_v60 : IVec S32x8732 32 := addi main_v54 main_v59
  let main_v61 : IVec S32x8732 32 := select main_v58 main_v60 main_v54
  let main_v62 : IVec S32x8732x1 32 := broadcastInDim S32x8732x1 ![0, 1] bcast_S32x8732_S32x8732x1_0_1 main_v61
  let main_v63 : IVec S32x8732 32 := (fun x i => Host.gather gather_S32x32_S32x8732x1_S32x8732_n_1_0_0_1_2_11 x i) main_arg4 main_v62
  let main_c_3 : IVec S_ 32 := constantI S_ 32 0#32
  let main_v64 : IVec S32x8732 32 := fn_where (F := F) main_v56 main_c_3 main_v63
  let main_c_4 : IVec S_ 32 := constantI S_ 32 0#32
  fn_part3 (F := F) main_arg1 main_arg2 main_arg3 main_arg6 main_v54 main_v64 main_c_4

def fn_part1 {F : FTy → Type} [FloatOps F] (main_arg1 : FVec F S32x8732x81 .f32) (main_arg2 : FVec F S8732x4 .f32) (main_arg3 : FVec F S32x32x4 .f32) (main_arg4 : IVec S32x32 32) (main_arg6 : FVec F S1x1 .f32) (main_v22 : FVec F S32x32x8732 .f32) : IVec S1x1 1 :=
  let main_v23 : FVec F S32x32x1 .f32 := (extractStridedSlice S32x32x1 ![0, 0, 2] · slices_S32x32x4_S32x32x1_0_0_2) main_arg3
  let main_v24 : FVec F S32x32 .f32 := shapeCast S32x32 main_v23 shapeCasts_S32x32x1_S32x32
  let main_v25 : FVec F S32x32x1 .f32 := (extractStridedSlice S32x32x1 ![0, 0, 0] · slices_S32x32x4_S32x32x1_0_0_0) main_arg3
  let main_v26 : FVec F S32x32 .f32 := shapeCast S32x32 main_v25 shapeCasts_S32x32x1_S32x32
  let main_v27 : FVec F S32x32 .f32 := subf main_v24 main_v26
  let main_v28 : FVec F S32x32x1 .f32 := (extractStridedSlice S32x32x1 ![0, 0, 3] · slices_S32x32x4_S32x32x1_0_0_3) main_arg3
  let main_v29 : FVec F S32x32 .f32 := shapeCast S32x32 main_v28 shapeCasts_S32x32x1_S32x32
  let main_v30 : FVec F S32x32x1 .f32 := (extractStridedSlice S32x32x1 ![0, 0, 1] · slices_S32x32x4_S32x32x1_0_0_1) main_arg3
  let main_v31 : FVec F S32x32 .f32 := shapeCast S32x32 main_v30 shapeCasts_S32x32x1_S32x32
  let main_v32 : FVec F S32x32 .f32 := subf main_v29 main_v31
  let main_v33 : FVec F S32x32 .f32 := mulf main_v27 main_v32
  let main_v34 : FVec F S32x32x1 .f32 := broadcastInDim S32x32x1 ![0, 1] bcast_S32x32_S32x32x1_0_1 main_v33
  let main_v35 : FVec F S8732x1 .f32 := (extractStridedSlice S8732x1 ![0, 2] · slices_S8732x4_S8732x1_0_2) main_arg2
  let main_v36 : FVec F S8732 .f32 := shapeCast S8732 main_v35 shapeCasts_S8732x1_S8732
  let main_v37 : FVec F S8732x1 .f32 := (extractStridedSlice S8732x1 ![0, 0] · slices_S8732x4_S8732x1_0_0) main_arg2
  let main_v38 : FVec F S8732 .f32 := shapeCast S8732 main_v37 shapeCasts_S8732x1_S8732
  let main_v39 : FVec F S8732 .f32 := subf main_v36 main_v38
  let main_v40 : FVec F S8732x1 .f32 := (extractStridedSlice S8732x1 ![0, 3] · slices_S8732x4_S8732x1_0_3) main_arg2
  let main_v41 : FVec F S8732 .f32 := shapeCast S8732 main_v40 shapeCasts_S8732x1_S8732
  let main_v42 : FVec F S8732x1 .f32 := (extractStridedSlice S8732x1 ![0, 1] · slices_S8732x4_S8732x1_0_1) main_arg2
  let main_v43 : FVec F S8732 .f32 := shapeCast S8732 main_v42 shapeCasts_S8732x1_S8732
  let main_v44 : FVec F S8732 .f32 := subf main_v41 main_v43
  let main_v45 : FVec F S8732 .f32 := mulf main_v39 main_v44
  let main_v46 : FVec F S1x8732 .f32 := broadcastInDim S1x8732 ![1] bcast_S8732_S1x8732_1 main_v45
  fn_part2 (F := F) main_arg1 main_arg2 main_arg3 main_arg4 main_arg6 main_v22 main_v34 main_v46

def fn {F : FTy → Type} [FloatOps F] (main_arg0 : FVec F S32x8732x4 .f32) (main_arg1 : FVec F S32x8732x81 .f32) (main_arg2 : FVec F S8732x4 .f32) (main_arg3 : FVec F S32x32x4 .f32) (main_arg4 : IVec S32x32 32) (main_arg5 : FVec F S1x1 .f32) (main_arg6 : FVec F S1x1 .f32) : IVec S1x1 1 :=
  let main_v0 : FVec F S32x32x2 .f32 := (extractStridedSlice S32x32x2 ![0, 0, 0] · slices_S32x32x4_S32x32x2_0_0_0) main_arg3
  let main_v1 : FVec F S32x32x1x2 .f32 := broadcastInDim S32x32x1x2 ![0, 1, 3] bcast_S32x32x2_S32x32x1x2_0_1_3 main_v0
  let main_v2 : FVec F S8732x2 .f32 := (extractStridedSlice S8732x2 ![0, 0] · slices_S8732x4_S8732x2_0_0) main_arg2
  let main_v3 : FVec F S1x8732x2 .f32 := broadcastInDim S1x8732x2 ![1, 2] bcast_S8732x2_S1x8732x2_1_2 main_v2
  let main_v4 : FVec F S1x1x8732x2 .f32 := broadcastInDim S1x1x8732x2 ![1, 2, 3] bcast_S1x8732x2_S1x1x8732x2_1_2_3 main_v3
  let main_v5 : FVec F S32x32x8732x2 .f32 := broadcastInDim S32x32x8732x2 ![0, 1, 2, 3] bcast_S32x32x1x2_S32x32x8732x2_0_1_2_3 main_v1
  let main_v6 : FVec F S32x32x8732x2 .f32 := broadcastInDim S32x32x8732x2 ![0, 1, 2, 3] bcast_S1x1x8732x2_S32x32x8732x2_0_1_2_3 main_v4
  let main_v7 : FVec F S32x32x8732x2 .f32 := maximumf main_v5 main_v6
  let main_v8 : FVec F S32x32x2 .f32 := (extractStridedSlice S32x32x2 ![0, 0, 2] · slices_S32x32x4_S32x32x2_0_0_2) main_arg3
  let main_v9 : FVec F S32x32x1x2 .f32 := broadcastInDim S32x32x1x2 ![0, 1, 3] bcast_S32x32x2_S32x32x1x2_0_1_3 main_v8
  let main_v10 : FVec F S8732x2 .f32 := (extractStridedSlice S8732x2 ![0, 2] · slices_S8732x4_S8732x2_0_2) main_arg2
  let main_v11 : FVec F S1x8732x2 .f32 := broadcastInDim S1x8732x2 ![1, 2] bcast_S8732x2_S1x8732x2_1_2 main_v10
  let main_v12 : FVec F S1x1x8732x2 .f32 := broadcastInDim S1x1x8732x2 ![1, 2, 3] bcast_S1x8732x2_S1x1x8732x2_1_2_3 main_v11
  let main_v13 : FVec F S32x32x8732x2 .f32 := broadcastInDim S32x32x8732x2 ![0, 1, 2, 3] bcast_S32x32x1x2_S32x32x8732x2_0_1_2_3 main_v9
  let main_v14 : FVec F S32x32x8732x2 .f32 := broadcastInDim S32x32x8732x2 ![0, 1, 2, 3] bcast_S1x1x8732x2_S32x32x8732x2_0_1_2_3 main_v12
  let main_v15 : FVec F S32x32x8732x2 .f32 := minimumf main_v13 main_v14
  let main_v16 : FVec F S32x32x8732x2 .f32 := subf main_v15 main_v7
  let main_cst : FVec F S_ .f32 := constant S_ .f32 0x00000000#32
  let main_v17 : FVec F S32x32x8732x2 .f32 := fn_clip (F := F) main_v16 main_cst
  let main_v18 : FVec F S32x32x8732x1 .f32 := (extractStridedSlice S32x32x8732x1 ![0, 0, 0, 0] · slices_S32x32x8732x2_S32x32x8732x1_0_0_0_0) main_v17
  let main_v19 : FVec F S32x32x8732 .f32 := shapeCast S32x32x8732 main_v18 shapeCasts_S32x32x8732x1_S32x32x8732
  let main_v20 : FVec F S32x32x8732x1 .f32 := (extractStridedSlice S32x32x8732x1 ![0, 0, 0, 1] · slices_S32x32x8732x2_S32x32x8732x1_0_0_0_1) main_v17
  let main_v21 : FVec F S32x32x8732 .f32 := shapeCast S32x32x8732 main_v20 shapeCasts_S32x32x8732x1_S32x32x8732
  let main_v22 : FVec F S32x32x8732 .f32 := mulf main_v19 main_v21
  fn_part1 (F := F) main_arg1 main_arg2 main_arg3 main_arg4 main_arg6 main_v22
-- ==== Pre_labels_and_logits.lean ====
abbrev S32x8732x4 : Shape := ⟨3, ![32, 8732, 4]⟩
abbrev S32x8732x81 : Shape := ⟨3, ![32, 8732, 81]⟩
abbrev S8732x4 : Shape := ⟨2, ![8732, 4]⟩
abbrev S32x32x4 : Shape := ⟨3, ![32, 32, 4]⟩
abbrev S32x32 : Shape := ⟨2, ![32, 32]⟩
abbrev S_ : Shape := ⟨0, ![]⟩

class Facts : Prop where
  bcast_S_S32x32 : S_.BroadcastsInDim S32x32 (![] : Fin 0 → Fin S32x32.rank)
  reducesTo_S32x32_S_d0_1 : S32x32.ReducesTo [0, 1] S_
  h_S_ : 0 < S_.numel
  bcast_S_S32x8732x81 : S_.BroadcastsInDim S32x8732x81 (![] : Fin 0 → Fin S32x8732x81.rank)
  reducesTo_S32x8732x81_S_d0_1_2 : S32x8732x81.ReducesTo [0, 1, 2] S_

variable [Facts]

def fn {F : FTy → Type} [FloatOps F] (main_arg0 : FVec F S32x8732x4 .f32) (main_arg1 : FVec F S32x8732x81 .f32) (main_arg2 : FVec F S8732x4 .f32) (main_arg3 : FVec F S32x32x4 .f32) (main_arg4 : IVec S32x32 32) : IVec S_ 1 :=
  let main_c : IVec S_ 32 := constantI S_ 32 1#32
  let main_v0 : IVec S32x32 32 := broadcastInDim S32x32 ![] bcast_S_S32x32 main_c
  let main_v1 : IVec S32x32 1 := cmpi .sge main_arg4 main_v0
  let main_c_0 : IVec S_ 32 := constantI S_ 32 80#32
  let main_v2 : IVec S32x32 32 := broadcastInDim S32x32 ![] bcast_S_S32x32 main_c_0
  let main_v3 : IVec S32x32 1 := cmpi .sle main_arg4 main_v2
  let main_v4 : IVec S32x32 1 := andi main_v1 main_v3
  let main_c_1 : IVec S_ 1 := constantI S_ 1 1#1
  let main_v5 : IVec S_ 1 := (fun x v => Host.reduce IntOp.andi x v reducesTo_S32x32_S_d0_1 h_S_) main_v4 main_c_1
  let main_v6 : FVec F S32x8732x81 .f32 := Host.absf main_arg1
  let main_cst : FVec F S_ .f32 := constant S_ .f32 0x7F800000#32
  let main_v7 : FVec F S32x8732x81 .f32 := broadcastInDim S32x8732x81 ![] bcast_S_S32x8732x81 main_cst
  let main_v8 : IVec S32x8732x81 1 := cmpf .olt main_v6 main_v7
  let main_c_2 : IVec S_ 1 := constantI S_ 1 1#1
  let main_v9 : IVec S_ 1 := (fun x v => Host.reduce IntOp.andi x v reducesTo_S32x8732x81_S_d0_1_2 h_S_) main_v8 main_c_2
  let main_v10 : IVec S_ 1 := andi main_v5 main_v9
  main_v10
-- ==== Pre_labels_positive.lean ====
abbrev S32x8732x4 : Shape := ⟨3, ![32, 8732, 4]⟩
abbrev S32x8732x81 : Shape := ⟨3, ![32, 8732, 81]⟩
abbrev S8732x4 : Shape := ⟨2, ![8732, 4]⟩
abbrev S32x32x4 : Shape := ⟨3, ![32, 32, 4]⟩
abbrev S32x32 : Shape := ⟨2, ![32, 32]⟩
abbrev S_ : Shape := ⟨0, ![]⟩

class Facts : Prop where
  bcast_S_S32x32 : S_.BroadcastsInDim S32x32 (![] : Fin 0 → Fin S32x32.rank)

variable [Facts]

def fn {F : FTy → Type} [FloatOps F] (main_arg0 : FVec F S32x8732x4 .f32) (main_arg1 : FVec F S32x8732x81 .f32) (main_arg2 : FVec F S8732x4 .f32) (main_arg3 : FVec F S32x32x4 .f32) (main_arg4 : IVec S32x32 32) : IVec S32x32 1 :=
  let main_c : IVec S_ 32 := constantI S_ 32 1#32
  let main_v0 : IVec S32x32 32 := broadcastInDim S32x32 ![] bcast_S_S32x32 main_c
  let main_v1 : IVec S32x32 1 := cmpi .sge main_arg4 main_v0
  main_v1
-- ==== Kernel.lean ====
abbrev S32x8732x4 : Shape := ⟨3, ![32, 8732, 4]⟩
abbrev S32x8732x81 : Shape := ⟨3, ![32, 8732, 81]⟩
abbrev S8732x4 : Shape := ⟨2, ![8732, 4]⟩
abbrev S32x32x4 : Shape := ⟨3, ![32, 32, 4]⟩
abbrev S32x32 : Shape := ⟨2, ![32, 32]⟩
abbrev S32x81x8732 : Shape := ⟨3, ![32, 81, 8732]⟩
abbrev S32x4x8732 : Shape := ⟨3, ![32, 4, 8732]⟩
abbrev S4x8732 : Shape := ⟨2, ![4, 8732]⟩
abbrev S32x32x1 : Shape := ⟨3, ![32, 32, 1]⟩
abbrev S1x1 : Shape := ⟨2, ![1, 1]⟩
abbrev S1x32x4 : Shape := ⟨3, ![1, 32, 4]⟩
abbrev S1x32x1 : Shape := ⟨3, ![1, 32, 1]⟩
abbrev S1x4x8732 : Shape := ⟨3, ![1, 4, 8732]⟩
abbrev S1x81x8732 : Shape := ⟨3, ![1, 81, 8732]⟩
abbrev S32x8732 : Shape := ⟨2, ![32, 8732]⟩
abbrev S32x3 : Shape := ⟨2, ![32, 3]⟩
abbrev S32x4 : Shape := ⟨2, ![32, 4]⟩
abbrev S32x1 : Shape := ⟨2, ![32, 1]⟩
abbrev S1x8732 : Shape := ⟨2, ![1, 8732]⟩
abbrev S8732 : Shape := ⟨1, ![8732]⟩
abbrev S32x5 : Shape := ⟨2, ![32, 5]⟩
abbrev S5x32 : Shape := ⟨2, ![5, 32]⟩
abbrev S5x8732 : Shape := ⟨2, ![5, 8732]⟩
abbrev S1x1x8732 : Shape := ⟨3, ![1, 1, 8732]⟩
abbrev S1 : Shape := ⟨1, ![1]⟩
abbrev S1x1x1 : Shape := ⟨3, ![1, 1, 1]⟩
abbrev S81x8732 : Shape := ⟨2, ![81, 8732]⟩
abbrev S1x3 : Shape := ⟨2, ![1, 3]⟩
abbrev S32 : Shape := ⟨1, ![32]⟩

abbrev nBuf : Space → Nat
  | .hbm => 13
  | .vmem => 13
  | .smem => 0
  | _ => 0

abbrev bufTy : (tb : Table) → Fin (tcTables nBuf tb) → BufTy
  | .hbm, ⟨0, _⟩ => ⟨S32x8732x4, .f32⟩
  | .hbm, ⟨1, _⟩ => ⟨S32x8732x81, .f32⟩
  | .hbm, ⟨2, _⟩ => ⟨S8732x4, .f32⟩
  | .hbm, ⟨3, _⟩ => ⟨S32x32x4, .f32⟩
  | .hbm, ⟨4, _⟩ => ⟨S32x32, .i32⟩
  | .hbm, ⟨5, _⟩ => ⟨S32x8732x81, .bf16⟩
  | .hbm, ⟨6, _⟩ => ⟨S32x81x8732, .bf16⟩
  | .hbm, ⟨7, _⟩ => ⟨S32x4x8732, .f32⟩
  | .hbm, ⟨8, _⟩ => ⟨S4x8732, .f32⟩
  | .hbm, ⟨9, _⟩ => ⟨S32x32, .f32⟩
  | .hbm, ⟨10, _⟩ => ⟨S32x32x1, .f32⟩
  | .hbm, ⟨11, _⟩ => ⟨S1x1, .f32⟩
  | .hbm, ⟨12, _⟩ => ⟨S1x1, .f32⟩
  | .local _ .vmem, ⟨0, _⟩ => ⟨S4x8732, .f32⟩
  | .local _ .vmem, ⟨1, _⟩ => ⟨S1x32x4, .f32⟩
  | .local _ .vmem, ⟨2, _⟩ => ⟨S1x32x4, .f32⟩
  | .local _ .vmem, ⟨3, _⟩ => ⟨S1x32x1, .f32⟩
  | .local _ .vmem, ⟨4, _⟩ => ⟨S1x32x1, .f32⟩
  | .local _ .vmem, ⟨5, _⟩ => ⟨S1x4x8732, .f32⟩
  | .local _ .vmem, ⟨6, _⟩ => ⟨S1x4x8732, .f32⟩
  | .local _ .vmem, ⟨7, _⟩ => ⟨S1x81x8732, .bf16⟩
  | .local _ .vmem, ⟨8, _⟩ => ⟨S1x81x8732, .bf16⟩
  | .local _ .vmem, ⟨9, _⟩ => ⟨S1x1, .f32⟩
  | .local _ .vmem, ⟨10, _⟩ => ⟨S1x1, .f32⟩
  | .local _ .vmem, ⟨11, _⟩ => ⟨S32x8732, .f32⟩
  | .local _ .vmem, ⟨12, _⟩ => ⟨S32x3, .f32⟩
  | _, _ => ⟨S32x8732x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def k0_off1 (i : grid0.Coords) : Fin 2 → Nat :=
  let arg0 : BitVec 32 := BitVec.ofNat 32 (i 0).val
  let v213 : Index := Scalar.indexCast arg0
  let c0_55 : Index := 0#32
  ![v213.toNat, 0]
def k0_off2 (i : grid0.Coords) : Fin 2 → Nat :=
  let arg0 : BitVec 32 := BitVec.ofNat 32 (i 0).val
  let v217 : Index := Scalar.indexCast arg0
  let c0_56 : Index := 0#32
  ![v217.toNat, 0]
def k0_cond1 (i : grid0.Coords) : BitVec 1 :=
  let arg0 : BitVec 32 := BitVec.ofNat 32 (i 0).val
  let c31_i32 : BitVec 32 := 31#32
  let v221 : BitVec 1 := Scalar.cmpi .eq arg0 c31_i32
  let v222 : BitVec 32 := Scalar.extui v221
  let c0_i32 : BitVec 32 := 0#32
  let v223 : BitVec 1 := Scalar.cmpi .ne v222 c0_i32
  v223

@[reducible] def k0_t1_loop : Scf.Loop 32 :=
  let c0_i32_65 : BitVec 32 := 0#32
  let c30_i32 : BitVec 32 := 30#32
  let v234 : BitVec 32 := Scalar.addi c0_i32_65 c30_i32
  let c1_i32 : BitVec 32 := 1#32
  ⟨c0_i32_65, v234, c1_i32⟩
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4x8732 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x32x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x8732 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x81x8732 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S32x8732x4 : Shape := ⟨3, ![32, 8732, 4]⟩
abbrev S32x8732x81 : Shape := ⟨3, ![32, 8732, 81]⟩
abbrev S8732x4 : Shape := ⟨2, ![8732, 4]⟩
abbrev S32x32x4 : Shape := ⟨3, ![32, 32, 4]⟩
abbrev S32x32 : Shape := ⟨2, ![32, 32]⟩
abbrev S32x32x2 : Shape := ⟨3, ![32, 32, 2]⟩
abbrev S32x32x1x2 : Shape := ⟨4, ![32, 32, 1, 2]⟩
abbrev S8732x2 : Shape := ⟨2, ![8732, 2]⟩
abbrev S1x8732x2 : Shape := ⟨3, ![1, 8732, 2]⟩
abbrev S1x1x8732x2 : Shape := ⟨4, ![1, 1, 8732, 2]⟩
abbrev S32x32x8732x2 : Shape := ⟨4, ![32, 32, 8732, 2]⟩
abbrev S_ : Shape := ⟨0, ![]⟩
abbrev S32x32x8732x1 : Shape := ⟨4, ![32, 32, 8732, 1]⟩
abbrev S32x32x8732 : Shape := ⟨3, ![32, 32, 8732]⟩
abbrev S32x32x1 : Shape := ⟨3, ![32, 32, 1]⟩
abbrev S8732x1 : Shape := ⟨2, ![8732, 1]⟩
abbrev S8732 : Shape := ⟨1, ![8732]⟩
abbrev S1x8732 : Shape := ⟨2, ![1, 8732]⟩
abbrev S1x1x8732 : Shape := ⟨3, ![1, 1, 8732]⟩
abbrev S32x8732 : Shape := ⟨2, ![32, 8732]⟩
abbrev S32x8732x1 : Shape := ⟨3, ![32, 8732, 1]⟩
abbrev S32x8732x2 : Shape := ⟨3, ![32, 8732, 2]⟩
abbrev S32x8732x1x1 : Shape := ⟨4, ![32, 8732, 1, 1]⟩
abbrev S1 : Shape := ⟨1, ![1]⟩
abbrev S1x1x1x1 : Shape := ⟨4, ![1, 1, 1, 1]⟩
abbrev S32 : Shape := ⟨1, ![32]⟩
abbrev S32x1 : Shape := ⟨2, ![32, 1]⟩
abbrev S1x1 : Shape := ⟨2, ![1, 1]⟩

abbrev nBuf : Space → Nat
  | .hbm => 228
  | .vmem => 0
  | .smem => 0
  | _ => 0

abbrev hbmTy0_0 (i : Nat) : BufTy := match i % 128 with
  | 0 => ⟨S32x8732x4, .f32⟩
  | 1 => ⟨S32x8732x81, .f32⟩
  | 2 => ⟨S8732x4, .f32⟩
  | 3 => ⟨S32x32x4, .f32⟩
  | 4 => ⟨S32x32, .i32⟩
  | 5 => ⟨S32x32x2, .f32⟩
  | 6 => ⟨S32x32x1x2, .f32⟩
  | 7 => ⟨S8732x2, .f32⟩
  | 8 => ⟨S1x8732x2, .f32⟩
  | 9 => ⟨S1x1x8732x2, .f32⟩
  | 10 => ⟨S32x32x8732x2, .f32⟩
  | 11 => ⟨S32x32x8732x2, .f32⟩
  | 12 => ⟨S32x32x8732x2, .f32⟩
  | 13 => ⟨S32x32x2, .f32⟩
  | 14 => ⟨S32x32x1x2, .f32⟩
  | 15 => ⟨S8732x2, .f32⟩
  | 16 => ⟨S1x8732x2, .f32⟩
  | 17 => ⟨S1x1x8732x2, .f32⟩
  | 18 => ⟨S32x32x8732x2, .f32⟩
  | 19 => ⟨S32x32x8732x2, .f32⟩
  | 20 => ⟨S32x32x8732x2, .f32⟩
  | 21 => ⟨S32x32x8732x2, .f32⟩
  | 22 => ⟨S_, .f32⟩
  | 23 => ⟨S_, .f32⟩
  | 24 => ⟨S32x32x8732x2, .f32⟩
  | 25 => ⟨S32x32x8732x2, .f32⟩
  | 26 => ⟨S32x32x8732x1, .f32⟩
  | 27 => ⟨S32x32x8732, .f32⟩
  | 28 => ⟨S32x32x8732x1, .f32⟩
  | 29 => ⟨S32x32x8732, .f32⟩
  | 30 => ⟨S32x32x8732, .f32⟩
  | 31 => ⟨S32x32x1, .f32⟩
  | 32 => ⟨S32x32, .f32⟩
  | 33 => ⟨S32x32x1, .f32⟩
  | 34 => ⟨S32x32, .f32⟩
  | 35 => ⟨S32x32, .f32⟩
  | 36 => ⟨S32x32x1, .f32⟩
  | 37 => ⟨S32x32, .f32⟩
  | 38 => ⟨S32x32x1, .f32⟩
  | 39 => ⟨S32x32, .f32⟩
  | 40 => ⟨S32x32, .f32⟩
  | 41 => ⟨S32x32, .f32⟩
  | 42 => ⟨S32x32x1, .f32⟩
  | 43 => ⟨S8732x1, .f32⟩
  | 44 => ⟨S8732, .f32⟩
  | 45 => ⟨S8732x1, .f32⟩
  | 46 => ⟨S8732, .f32⟩
  | 47 => ⟨S8732, .f32⟩
  | 48 => ⟨S8732x1, .f32⟩
  | 49 => ⟨S8732, .f32⟩
  | 50 => ⟨S8732x1, .f32⟩
  | 51 => ⟨S8732, .f32⟩
  | 52 => ⟨S8732, .f32⟩
  | 53 => ⟨S8732, .f32⟩
  | 54 => ⟨S1x8732, .f32⟩
  | 55 => ⟨S1x1x8732, .f32⟩
  | 56 => ⟨S32x32x8732, .f32⟩
  | 57 => ⟨S32x32x8732, .f32⟩
  | 58 => ⟨S32x32x8732, .f32⟩
  | 59 => ⟨S32x32x8732, .f32⟩
  | 60 => ⟨S32x32x8732, .f32⟩
  | 61 => ⟨S_, .f32⟩
  | 62 => ⟨S32x8732, .f32⟩
  | 63 => ⟨S32x32x8732, .i32⟩
  | 64 => ⟨S_, .f32⟩
  | 65 => ⟨S_, .i32⟩
  | 66 => ⟨S32x8732, .f32⟩
  | 67 => ⟨S32x8732, .i32⟩
  | 68 => ⟨S_, .f32⟩
  | 69 => ⟨S32x8732, .f32⟩
  | 70 => ⟨S32x8732, .i1⟩
  | 71 => ⟨S_, .i32⟩
  | 72 => ⟨S32x8732, .i32⟩
  | 73 => ⟨S32x8732, .i1⟩
  | 74 => ⟨S_, .i32⟩
  | 75 => ⟨S32x8732, .i32⟩
  | 76 => ⟨S32x8732, .i32⟩
  | 77 => ⟨S32x8732, .i32⟩
  | 78 => ⟨S32x8732x1, .i32⟩
  | 79 => ⟨S32x8732, .i32⟩
  | 80 => ⟨S_, .i32⟩
  | 81 => ⟨S_, .i32⟩
  | 82 => ⟨S8732, .i32⟩
  | 83 => ⟨S32x8732, .i32⟩
  | 84 => ⟨S32x8732, .i32⟩
  | 85 => ⟨S_, .i32⟩
  | 86 => ⟨S32x8732, .i32⟩
  | 87 => ⟨S32x8732, .i1⟩
  | 88 => ⟨S_, .i32⟩
  | 89 => ⟨S32x8732, .i32⟩
  | 90 => ⟨S32x8732, .i32⟩
  | 91 => ⟨S32x8732, .i32⟩
  | 92 => ⟨S32x8732x1, .i32⟩
  | 93 => ⟨S32x8732x4, .f32⟩
  | 94 => ⟨S8732x2, .f32⟩
  | 95 => ⟨S8732x2, .f32⟩
  | 96 => ⟨S8732x2, .f32⟩
  | 97 => ⟨S32x8732x2, .f32⟩
  | 98 => ⟨S32x8732x2, .f32⟩
  | 99 => ⟨S32x8732x2, .f32⟩
  | 100 => ⟨S8732x2, .f32⟩
  | 101 => ⟨S8732x2, .f32⟩
  | 102 => ⟨S8732x2, .f32⟩
  | 103 => ⟨S_, .f32⟩
  | 104 => ⟨S8732x2, .f32⟩
  | 105 => ⟨S8732x2, .f32⟩
  | 106 => ⟨S32x8732x2, .f32⟩
  | 107 => ⟨S32x8732x2, .f32⟩
  | 108 => ⟨S32x8732x2, .f32⟩
  | 109 => ⟨S_, .f32⟩
  | 110 => ⟨S32x8732x2, .f32⟩
  | 111 => ⟨S32x8732x2, .f32⟩
  | 112 => ⟨S1x8732x2, .f32⟩
  | 113 => ⟨S32x8732x2, .f32⟩
  | 114 => ⟨S32x8732x2, .f32⟩
  | 115 => ⟨S_, .f32⟩
  | 116 => ⟨S32x8732x2, .f32⟩
  | 117 => ⟨S32x8732x2, .f32⟩
  | 118 => ⟨S1x8732x2, .f32⟩
  | 119 => ⟨S32x8732x2, .f32⟩
  | 120 => ⟨S32x8732x2, .f32⟩
  | 121 => ⟨S1x8732x2, .f32⟩
  | 122 => ⟨S32x8732x2, .f32⟩
  | 123 => ⟨S32x8732x2, .f32⟩
  | 124 => ⟨S32x8732x2, .f32⟩
  | 125 => ⟨S_, .f32⟩
  | 126 => ⟨S32x8732x2, .f32⟩
  | 127 => ⟨S32x8732x2, .f32⟩
  | _ => ⟨S32x8732x4, .f32⟩

abbrev hbmTy0_1 (i : Nat) : BufTy := match i % 128 with
  | 0 => ⟨S32x8732x4, .f32⟩
  | 1 => ⟨S_, .i32⟩
  | 2 => ⟨S32x8732, .i32⟩
  | 3 => ⟨S32x8732, .i1⟩
  | 4 => ⟨S32x8732x4, .f32⟩
  | 5 => ⟨S32x8732x4, .f32⟩
  | 6 => ⟨S_, .f32⟩
  | 7 => ⟨S32x8732x4, .f32⟩
  | 8 => ⟨S32x8732x4, .i1⟩
  | 9 => ⟨S_, .f32⟩
  | 10 => ⟨S32x8732x4, .f32⟩
  | 11 => ⟨S32x8732x4, .f32⟩
  | 12 => ⟨S32x8732x4, .f32⟩
  | 13 => ⟨S_, .f32⟩
  | 14 => ⟨S32x8732x4, .f32⟩
  | 15 => ⟨S32x8732x4, .f32⟩
  | 16 => ⟨S32x8732x4, .f32⟩
  | 17 => ⟨S32x8732x1, .i1⟩
  | 18 => ⟨S32x8732x1, .f32⟩
  | 19 => ⟨S32x8732x4, .f32⟩
  | 20 => ⟨S32x8732x4, .f32⟩
  | 21 => ⟨S_, .f32⟩
  | 22 => ⟨S_, .f32⟩
  | 23 => ⟨S_, .f32⟩
  | 24 => ⟨S32x8732, .f32⟩
  | 25 => ⟨S_, .f32⟩
  | 26 => ⟨S32x8732, .f32⟩
  | 27 => ⟨S32x8732, .f32⟩
  | 28 => ⟨S32x8732x1, .f32⟩
  | 29 => ⟨S32x8732x81, .f32⟩
  | 30 => ⟨S32x8732x81, .f32⟩
  | 31 => ⟨S32x8732x81, .f32⟩
  | 32 => ⟨S_, .f32⟩
  | 33 => ⟨S32x8732, .f32⟩
  | 34 => ⟨S32x8732x1, .f32⟩
  | 35 => ⟨S32x8732x1, .f32⟩
  | 36 => ⟨S32x8732x81, .f32⟩
  | 37 => ⟨S32x8732x81, .f32⟩
  | 38 => ⟨S32x8732x1, .i32⟩
  | 39 => ⟨S_, .i32⟩
  | 40 => ⟨S32x8732x1, .i32⟩
  | 41 => ⟨S32x8732x1, .i1⟩
  | 42 => ⟨S_, .i32⟩
  | 43 => ⟨S32x8732x1, .i32⟩
  | 44 => ⟨S32x8732x1, .i32⟩
  | 45 => ⟨S32x8732x1, .i32⟩
  | 46 => ⟨S32x8732x1x1, .i32⟩
  | 47 => ⟨S1, .i32⟩
  | 48 => ⟨S_, .i32⟩
  | 49 => ⟨S32x8732x1x1, .i32⟩
  | 50 => ⟨S32x8732x1x1, .i1⟩
  | 51 => ⟨S1x1x1x1, .i32⟩
  | 52 => ⟨S32x8732x1x1, .i32⟩
  | 53 => ⟨S32x8732x1x1, .i1⟩
  | 54 => ⟨S32x8732x1x1, .i1⟩
  | 55 => ⟨S_, .i1⟩
  | 56 => ⟨S32x8732x1, .i1⟩
  | 57 => ⟨S32x8732x1, .f32⟩
  | 58 => ⟨S_, .f32⟩
  | 59 => ⟨S32x8732x1, .f32⟩
  | 60 => ⟨S32x8732x1, .f32⟩
  | 61 => ⟨S32x8732, .f32⟩
  | 62 => ⟨S32x8732, .f32⟩
  | 63 => ⟨S_, .f32⟩
  | 64 => ⟨S_, .f32⟩
  | 65 => ⟨S32x8732, .f32⟩
  | 66 => ⟨S32x8732, .f32⟩
  | 67 => ⟨S32x8732, .f32⟩
  | 68 => ⟨S32x8732, .i32⟩
  | 69 => ⟨S32x8732, .f32⟩
  | 70 => ⟨S32x8732, .i32⟩
  | 71 => ⟨S32x8732, .i32⟩
  | 72 => ⟨S32x8732, .i32⟩
  | 73 => ⟨S32x8732, .i32⟩
  | 74 => ⟨S32x8732, .i32⟩
  | 75 => ⟨S_, .i32⟩
  | 76 => ⟨S32, .i32⟩
  | 77 => ⟨S32x1, .i32⟩
  | 78 => ⟨S_, .i32⟩
  | 79 => ⟨S32x1, .i32⟩
  | 80 => ⟨S32x1, .i32⟩
  | 81 => ⟨S_, .i32⟩
  | 82 => ⟨S32x1, .i32⟩
  | 83 => ⟨S32x1, .i32⟩
  | 84 => ⟨S32x8732, .i32⟩
  | 85 => ⟨S32x8732, .i1⟩
  | 86 => ⟨S32x8732, .i1⟩
  | 87 => ⟨S32x8732, .f32⟩
  | 88 => ⟨S32x8732, .f32⟩
  | 89 => ⟨S_, .f32⟩
  | 90 => ⟨S_, .f32⟩
  | 91 => ⟨S_, .i32⟩
  | 92 => ⟨S_, .i32⟩
  | 93 => ⟨S_, .i32⟩
  | 94 => ⟨S_, .i32⟩
  | 95 => ⟨S_, .f32⟩
  | 96 => ⟨S_, .f32⟩
  | 97 => ⟨S1x1, .f32⟩
  | 98 => ⟨S_, .f32⟩
  | 99 => ⟨S1x1, .f32⟩
  | _ => ⟨S32x8732x4, .f32⟩

abbrev hbmTy (i : Nat) : BufTy := match i / 128 with
  | 0 => hbmTy0_0 i
  | 1 => hbmTy0_1 i
  | _ => ⟨S32x8732x4, .f32⟩

abbrev bufTy : (tb : Table) → Fin (tcTables nBuf tb) → BufTy
  | .hbm, ⟨i, _⟩ => hbmTy i
  | _, _ => ⟨S32x8732x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_call0_v0 : Ref sig .tc := ⟨.hbm, 23, rfl⟩
abbrev main_call0_v1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_cst_0 : Ref sig .tc := ⟨.hbm, 61, rfl⟩
abbrev main_v53 : Ref sig .tc := ⟨.hbm, 62, rfl⟩
abbrev main_call1_v0 : Ref sig .tc := ⟨.hbm, 63, rfl⟩
abbrev main_call1_cst : Ref sig .tc := ⟨.hbm, 64, rfl⟩
abbrev main_call1_c : Ref sig .tc := ⟨.hbm, 65, rfl⟩
abbrev main_call1_v1_0 : Ref sig .tc := ⟨.hbm, 66, rfl⟩
abbrev main_v54 : Ref sig .tc := ⟨.hbm, 67, rfl⟩
abbrev main_cst_1 : Ref sig .tc := ⟨.hbm, 68, rfl⟩
abbrev main_v55 : Ref sig .tc := ⟨.hbm, 69, rfl⟩
abbrev main_v56 : Ref sig .tc := ⟨.hbm, 70, rfl⟩
abbrev main_c : Ref sig .tc := ⟨.hbm, 71, rfl⟩
abbrev main_v57 : Ref sig .tc := ⟨.hbm, 72, rfl⟩
abbrev main_v58 : Ref sig .tc := ⟨.hbm, 73, rfl⟩
abbrev main_c_2 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_c_3 : Ref sig .tc := ⟨.hbm, 80, rfl⟩
abbrev main_call2_v0 : Ref sig .tc := ⟨.hbm, 81, rfl⟩
abbrev main_call2_v1 : Ref sig .tc := ⟨.hbm, 82, rfl⟩
abbrev main_call2_v2 : Ref sig .tc := ⟨.hbm, 83, rfl⟩
abbrev main_v64 : Ref sig .tc := ⟨.hbm, 84, rfl⟩
abbrev main_c_4 : Ref sig .tc := ⟨.hbm, 85, rfl⟩
abbrev main_v65 : Ref sig .tc := ⟨.hbm, 86, rfl⟩
abbrev main_v66 : Ref sig .tc := ⟨.hbm, 87, rfl⟩
abbrev main_c_5 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_cst_6 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_cst_7 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_cst_8 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_cst_9 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_c_10 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_cst_11 : Ref sig .tc := ⟨.hbm, 134, rfl⟩
abbrev main_v107 : Ref sig .tc := ⟨.hbm, 135, rfl⟩
abbrev main_v108 : Ref sig .tc := ⟨.hbm, 136, rfl⟩
abbrev main_cst_12 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_cst_13 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_cst_14 : Ref sig .tc := ⟨.hbm, 149, rfl⟩
abbrev main_v119 : Ref sig .tc := ⟨.hbm, 150, rfl⟩
abbrev main_call4_cst : Ref sig .tc := ⟨.hbm, 151, rfl⟩
abbrev main_call4_v0 : Ref sig .tc := ⟨.hbm, 152, rfl⟩
abbrev main_call4_cst_0 : Ref sig .tc := ⟨.hbm, 153, rfl⟩
abbrev main_call4_v1 : Ref sig .tc := ⟨.hbm, 154, rfl⟩
abbrev main_call4_v2 : Ref sig .tc := ⟨.hbm, 155, rfl⟩
abbrev main_call4_v3 : Ref sig .tc := ⟨.hbm, 156, rfl⟩
abbrev main_call4_v4 : Ref sig .tc := ⟨.hbm, 157, rfl⟩
abbrev main_call4_v5 : Ref sig .tc := ⟨.hbm, 158, rfl⟩
abbrev main_call4_v6 : Ref sig .tc := ⟨.hbm, 159, rfl⟩
abbrev main_call4_cst_1 : Ref sig .tc := ⟨.hbm, 160, rfl⟩
abbrev main_call4_v7 : Ref sig .tc := ⟨.hbm, 161, rfl⟩
abbrev main_call4_v8 : Ref sig .tc := ⟨.hbm, 162, rfl⟩
abbrev main_call4_v9 : Ref sig .tc := ⟨.hbm, 163, rfl⟩
abbrev main_call4_v10 : Ref sig .tc := ⟨.hbm, 164, rfl⟩
abbrev main_v120 : Ref sig .tc := ⟨.hbm, 165, rfl⟩
abbrev main_v121 : Ref sig .tc := ⟨.hbm, 166, rfl⟩
abbrev main_call5_c : Ref sig .tc := ⟨.hbm, 167, rfl⟩
abbrev main_call5_v0 : Ref sig .tc := ⟨.hbm, 168, rfl⟩
abbrev main_call5_v1 : Ref sig .tc := ⟨.hbm, 169, rfl⟩
abbrev main_call5_c_0 : Ref sig .tc := ⟨.hbm, 170, rfl⟩
abbrev main_call5_v2 : Ref sig .tc := ⟨.hbm, 171, rfl⟩
abbrev main_call5_v3 : Ref sig .tc := ⟨.hbm, 172, rfl⟩
abbrev main_call5_v4 : Ref sig .tc := ⟨.hbm, 173, rfl⟩
abbrev main_call5_v5 : Ref sig .tc := ⟨.hbm, 174, rfl⟩
abbrev main_call5_c_1 : Ref sig .tc := ⟨.hbm, 175, rfl⟩
abbrev main_call5_c_2 : Ref sig .tc := ⟨.hbm, 176, rfl⟩
abbrev main_call5_v6 : Ref sig .tc := ⟨.hbm, 177, rfl⟩
abbrev main_call5_v7 : Ref sig .tc := ⟨.hbm, 178, rfl⟩
abbrev main_call5_v8 : Ref sig .tc := ⟨.hbm, 179, rfl⟩
abbrev main_call5_v9 : Ref sig .tc := ⟨.hbm, 180, rfl⟩
abbrev main_call5_v10 : Ref sig .tc := ⟨.hbm, 181, rfl⟩
abbrev main_call5_v11 : Ref sig .tc := ⟨.hbm, 182, rfl⟩
abbrev main_call5_c_3 : Ref sig .tc := ⟨.hbm, 183, rfl⟩
abbrev main_call5_v12 : Ref sig .tc := ⟨.hbm, 184, rfl⟩
abbrev main_call5_v13 : Ref sig .tc := ⟨.hbm, 185, rfl⟩
abbrev main_call5_cst : Ref sig .tc := ⟨.hbm, 186, rfl⟩
abbrev main_call5_v14 : Ref sig .tc := ⟨.hbm, 187, rfl⟩
abbrev main_v122 : Ref sig .tc := ⟨.hbm, 188, rfl⟩
abbrev main_v123 : Ref sig .tc := ⟨.hbm, 189, rfl⟩
abbrev main_v124 : Ref sig .tc := ⟨.hbm, 190, rfl⟩
abbrev main_cst_15 : Ref sig .tc := ⟨.hbm, 191, rfl⟩
abbrev main_call6_v0 : Ref sig .tc := ⟨.hbm, 192, rfl⟩
abbrev main_call6_v1 : Ref sig .tc := ⟨.hbm, 193, rfl⟩
abbrev main_v125 : Ref sig .tc := ⟨.hbm, 194, rfl⟩
abbrev main_v126 : Ref sig .tc := ⟨.hbm, 195, rfl⟩
abbrev main_call7_v0 : Ref sig .tc := ⟨.hbm, 196, rfl⟩
abbrev main_call7_v1_0 : Ref sig .tc := ⟨.hbm, 197, rfl⟩
abbrev main_v127 : Ref sig .tc := ⟨.hbm, 198, rfl⟩
abbrev main_call8_v0 : Ref sig .tc := ⟨.hbm, 199, rfl⟩
abbrev main_call8_v1_0 : Ref sig .tc := ⟨.hbm, 200, rfl⟩
abbrev main_v128 : Ref sig .tc := ⟨.hbm, 201, rfl⟩
abbrev main_v129 : Ref sig .tc := ⟨.hbm, 202, rfl⟩
abbrev main_c_16 : Ref sig .tc := ⟨.hbm, 203, rfl⟩
abbrev main_v130 : Ref sig .tc := ⟨.hbm, 204, rfl⟩
abbrev main_v131 : Ref sig .tc := ⟨.hbm, 205, rfl⟩
abbrev main_c_17 : Ref sig .tc := ⟨.hbm, 206, rfl⟩
abbrev main_v132 : Ref sig .tc := ⟨.hbm, 207, rfl⟩
abbrev main_v133 : Ref sig .tc := ⟨.hbm, 208, rfl⟩
abbrev main_c_18 : Ref sig .tc := ⟨.hbm, 209, rfl⟩
abbrev main_v134 : Ref sig .tc := ⟨.hbm, 210, rfl⟩
abbrev main_v135 : Ref sig .tc := ⟨.hbm, 211, rfl⟩
abbrev main_v136 : Ref sig .tc := ⟨.hbm, 212, rfl⟩
abbrev main_v137 : Ref sig .tc := ⟨.hbm, 213, rfl⟩
abbrev main_v138 : Ref sig .tc := ⟨.hbm, 214, rfl⟩
abbrev main_v139 : Ref sig .tc := ⟨.hbm, 215, rfl⟩
abbrev main_v140 : Ref sig .tc := ⟨.hbm, 216, rfl⟩
abbrev main_cst_19 : Ref sig .tc := ⟨.hbm, 217, rfl⟩
abbrev main_v141 : Ref sig .tc := ⟨.hbm, 218, rfl⟩
abbrev main_c_20 : Ref sig .tc := ⟨.hbm, 219, rfl⟩
abbrev main_v142 : Ref sig .tc := ⟨.hbm, 220, rfl⟩
abbrev main_c_21 : Ref sig .tc := ⟨.hbm, 221, rfl⟩
abbrev main_v143 : Ref sig .tc := ⟨.hbm, 222, rfl⟩
abbrev main_v144 : Ref sig .tc := ⟨.hbm, 223, rfl⟩
abbrev main_v145 : Ref sig .tc := ⟨.hbm, 224, rfl⟩
abbrev main_v146 : Ref sig .tc := ⟨.hbm, 225, rfl⟩
abbrev main_v147 : Ref sig .tc := ⟨.hbm, 226, rfl⟩
abbrev main_v148 : Ref sig .tc := ⟨.hbm, 227, rfl⟩

abbrev nD : Nat := 1
abbrev τ : Topo := Topo.v7x

variable {F : FTy → Type} [FloatOps F]
-- ==== Proof.Point.lean ====
/- What one grid point of the kernel computes from the blocks it is handed, as plain functions of those
   blocks: the row of negatives' losses it keeps for the last point, the row of three partial sums it keeps
   beside it, and the two results the last point forms from all the rows kept. -/
module

public import proofs.«01_k».proof.Proof.Gen.KernelIdeal.Frame
public import proofs.«01_k».proof.Proof.Gen.KernelIdeal.Skeleton
public import proofs.«01_k».proof.Proof.Gen.KernelIdeal.Points
public import proofs.«01_k».proof.Proof.Gen.KernelIdeal.Loops
public import Idealize.ShloMosaic.Lib.Claim
public import Idealize.ShloMosaic.Lib.ValueIdx

@[expose] public section

set_option maxRecDepth 16384

noncomputable section

namespace Cert.KernelIdeal.Value

open Idealize.ShloMosaic Idealize.ShloMosaic.ValueIdx Idealize.SL.Sem Cert.KernelIdeal Cert.KernelIdeal.Gen

variable {F : FTy → Type} [FloatOps F]

/-- Which anchor boxes are matched: the best overlap is at least one half. -/
def posv (x0 : Vec F S4x8732 .f32) (x1 : Vec F S1x32x4 .f32) : IVec S1x8732 1 :=
  k0_pay27 (k0_pay25 x1 x0)

/-- The row numbers of a box-by-anchor table. -/
def rows : IVec S32x8732 32 := iota .tc S32x8732 32 [0] iota_S32x8732_d0_w32

/-- The sum over the first coordinate's losses and half of the way into the second's. -/
def locA (x0 : Vec F S4x8732 .f32) (x1 : Vec F S1x32x4 .f32) (x2 : Vec F S1x32x1 .f32) (x3 : Vec F S1x4x8732 .f32) : FVec F S1x1 .f32 :=
  k0_pay42 (posv x0 x1)
    (k0_pay36 (k0_pay17 x1) (k0_pay18 x2) (k0_pay20 x0) (k0_pay22 x0) (k0_pay24 x1 x0) rows (k0_pay26 x1 x0))
    (k0_pay37 (k0_pay17 x1) (k0_pay18 x2) (k0_pay21 x0) (k0_pay23 x0) (k0_pay24 x1 x0) rows (k0_pay26 x1 x0))
    x3

/-- The localisation loss of the point's image: the masked smooth-L1 sum over its anchors. -/
def locv (x0 : Vec F S4x8732 .f32) (x1 : Vec F S1x32x4 .f32) (x2 : Vec F S1x32x1 .f32) (x3 : Vec F S1x4x8732 .f32) : FVec F S1x1 .f32 :=
  k0_pay44 (posv x0 x1)
    (k0_pay40 (k0_pay39 (k0_pay17 x1) (k0_pay18 x2) (k0_pay21 x0) (k0_pay23 x0) (k0_pay24 x1 x0) rows (k0_pay26 x1 x0)))
    (k0_pay41 x3) (locA x0 x1 x2 x3)
    (k0_pay43 (k0_pay38 (k0_pay17 x1) (k0_pay18 x2) (k0_pay20 x0) (k0_pay22 x0) (k0_pay24 x1 x0) rows (k0_pay26 x1 x0)) x3)

/-- The class each anchor is trained towards: its matched box's label, or 0. -/
def clsv (x0 : Vec F S4x8732 .f32) (x1 : Vec F S1x32x4 .f32) (x2 : Vec F S1x32x1 .f32) : FVec F S1x8732 .f32 :=
  k0_pay47 (posv x0 x1) (k0_pay33 (k0_pay17 x1) (k0_pay18 x2) (k0_pay24 x1 x0) rows (k0_pay26 x1 x0))

/-- The row of classification losses the point keeps: zero at matched anchors. -/
def cenv (x0 : Vec F S4x8732 .f32) (x1 : Vec F S1x32x4 .f32) (x2 : Vec F S1x32x1 .f32) (x4 : Vec F S1x81x8732 .bf16) : FVec F S1x8732 .f32 :=
  k0_pay2 (posv x0 x1) (k0_pay45 x4) (k0_pay46 x4) (clsv x0 x1 x2)

/-- The three partial sums the point keeps: matched anchors, localisation loss, classification loss at matched anchors. -/
def auxv (x0 : Vec F S4x8732 .f32) (x1 : Vec F S1x32x4 .f32) (x2 : Vec F S1x32x1 .f32) (x3 : Vec F S1x4x8732 .f32) (x4 : Vec F S1x81x8732 .bf16) : FVec F S1x3 .f32 :=
  k0_pay3 (posv x0 x1) (locv x0 x1 x2 x3) (k0_pay45 x4) (k0_pay46 x4) (clsv x0 x1 x2)

/-- One halving of the bracketing intervals of the thresholds. -/
def halve (S : Vec F S32x8732 .f32) (A : Vec F S32x3 .f32) (p : FVec F S32x1 .f32 × FVec F S32x1 .f32) : FVec F S32x1 .f32 × FVec F S32x1 .f32 :=
  (k0_pay13 S A p.1 p.2, k0_pay14 S A p.1 p.2)

/-- The bracketing intervals after every halving. -/
def brackets (S : Vec F S32x8732 .f32) (A : Vec F S32x3 .f32) : FVec F S32x1 .f32 × FVec F S32x1 .f32 :=
  (halve S A)^[30] (k0_pay10, k0_pay9 S)

/-- The first result from all the rows kept. -/
def outL (A : Vec F S32x3 .f32) : FVec F S1x1 .f32 := k0_pay5 (k0_pay7 A) (k0_pay16 A)

/-- The second result from all the rows kept. -/
def outC (S : Vec F S32x8732 .f32) (A : Vec F S32x3 .f32) : FVec F S1x1 .f32 :=
  k0_pay6 (k0_pay7 A) (k0_pay15 S A (brackets S A).1 (brackets S A).2)

/-- The kept losses with the row of point `n` replaced. -/
def setCen (n : ℕ) (row : FVec F S1x8732 .f32) (d : Vec F S32x8732 .f32) : Vec F S32x8732 .f32 :=
  fun j => if (j 0).val = n then row (ix2 0 (j 1)) else d j

/-- The kept partial sums with the row of point `n` replaced. -/
def setAux (n : ℕ) (row : FVec F S1x3 .f32) (d : Vec F S32x3 .f32) : Vec F S32x3 .f32 :=
  fun j => if (j 0).val = n then row (ix2 0 (j 1)) else d j

end Cert.KernelIdeal.Value

end
-- ==== Proof.RunFirst.lean ====
/- The body at a point that is not the last: it leaves its inputs and both results' buffers as they were and
   replaces its own row of each of the two tables it keeps. -/
module

public import proofs.«01_k».proof.Proof.Point
public import Idealize.ShloMosaic.Lib.WritesUnit
public import Idealize.ShloMosaic.Lib.WholeRead

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal Cert.KernelIdeal.Gen

variable {F : FTy → Type} [FloatOps F]

local notation "𝕄" => MT nD τ sig Unit (Elt F) ℕ (UR sig nD τ) ℕ

/-- The row offset of the two stores is the grid point's number. -/
theorem off1_eq (i : grid0.Coords) : k0_off1 i = ![(i 0).val, 0] := by
  have h : (i 0).val < 32 := (i 0).isLt
  simp only [k0_off1, Scalar.indexCast, BitVec.toNat_ofNat]
  rw [Nat.mod_eq_of_lt (by omega)]

theorem off2_eq (i : grid0.Coords) : k0_off2 i = ![(i 0).val, 0] := by
  have h : (i 0).val < 32 := (i 0).isLt
  simp only [k0_off2, Scalar.indexCast, BitVec.toNat_ofNat]
  rw [Nat.mod_eq_of_lt (by omega)]

/-- A load of a whole buffer reads what a view reads. -/
theorem readAt_whole {κ : Kind} {sp : Space} {s : Shape} {e : EltTy} {m : Memref sig κ sp s e} (f : m.view.ty.Contents (Elt F))
    {off : Fin s.rank → ℕ} (inb : ∀ a, off a + s.size a ≤ s.size a) :
    View.readAt (Elt F) m.view (Rect.unit off s.size inb).toLoadRect f = View.read (Elt F) m.view f := by
  funext x
  refine congrArg (View.read (Elt F) m.view f) ?_
  funext a
  apply Fin.ext
  have h0 : off a = 0 := by have := inb a; omega
  show off a + 1 * (x a).val = (x a).val
  rw [h0]; omega

/-- A load of a whole buffer holding a tensor reads the tensor. -/
theorem readAt_all {κ : Kind} {sp : Space} {s : Shape} {e : EltTy} {m : Memref sig κ sp s e} (h : m.IsWhole) (X : s.Idx → Elt F e)
    {off : Fin s.rank → ℕ} (inb : ∀ a, off a + s.size a ≤ s.size a) :
    View.readAt (Elt F) m.view (Rect.unit off s.size inb).toLoadRect (h.unread X) = X :=
  (readAt_whole _ inb).trans (h.read_unread X)

/-- Storing a row of losses at the grid point's number replaces that row. -/
theorem write_cen (i : grid0.Coords) {κ : Kind} {sp : Space} (m : Memref sig κ sp S32x8732 .f32) (f : m.view.ty.Contents (Elt F)) (d : Vec F S32x8732 .f32) (hf : View.read (Elt F) m.view f = d)
    (inb : ∀ a, (k0_off1 i) a + (![1, 8732] : Fin 2 → ℕ) a ≤ S32x8732.size a) (row : FVec F S1x8732 .f32) :
    View.read (Elt F) m.view (m.view.writes (Elt F) f [⟨Rect.unit (k0_off1 i) ![1, 8732] inb, row⟩])
      = setCen (i 0).val row d := by
  funext j
  by_cases h : (j 0).val = (i 0).val
  · have e : setCen (i 0).val row d j = row (ix2 0 (j 1)) := if_pos h
    rw [e]
    exact View.read_writes_cons_rows_of_mem m.view f inb row [] j (ix2 0 (j 1)) (off1_eq i) (by simpa using h) rfl
  · have e : setCen (i 0).val row d j = d j := if_neg h
    rw [e, ← hf]
    exact View.read_writes_cons_rows_of_not_mem (W := 1) m.view f inb row [] j (off1_eq i) rfl (by omega)

/-- Storing a row of partial sums at the grid point's number replaces that row. -/
theorem write_aux (i : grid0.Coords) {κ : Kind} {sp : Space} (m : Memref sig κ sp S32x3 .f32) (f : m.view.ty.Contents (Elt F)) (d : Vec F S32x3 .f32) (hf : View.read (Elt F) m.view f = d)
    (inb : ∀ a, (k0_off2 i) a + (![1, 3] : Fin 2 → ℕ) a ≤ S32x3.size a) (row : FVec F S1x3 .f32) :
    View.read (Elt F) m.view (m.view.writes (Elt F) f [⟨Rect.unit (k0_off2 i) ![1, 3] inb, row⟩])
      = setAux (i 0).val row d := by
  funext j
  by_cases h : (j 0).val = (i 0).val
  · have e : setAux (i 0).val row d j = row (ix2 0 (j 1)) := if_pos h
    rw [e]
    exact View.read_writes_cons_rows_of_mem m.view f inb row [] j (ix2 0 (j 1)) (off2_eq i) (by simpa using h) rfl
  · have e : setAux (i 0).val row d j = d j := if_neg h
    rw [e, ← hf]
    exact View.read_writes_cons_rows_of_not_mem (W := 1) m.view f inb row [] j (off2_eq i) rfl (by omega)

set_option maxHeartbeats 1000000 in
/-- The body at a point other than the last, from any contents `d8`, `d9` of the two kept tables. -/
theorem run_A (c : Dev nD) (i : grid0.Coords) (arg1 : Memref sig .tc .vmem S4x8732 .f32) (harg1 : arg1.IsWhole) (arg2 : Memref sig .tc .vmem S1x32x4 .f32) (harg2 : arg2.IsWhole) (arg3 : Memref sig .tc .vmem S1x32x1 .f32) (harg3 : arg3.IsWhole) (arg4 : Memref sig .tc .vmem S1x4x8732 .f32) (harg4 : arg4.IsWhole) (arg5 : Memref sig .tc .vmem S1x81x8732 .bf16) (harg5 : arg5.IsWhole) (arg6 : Memref sig .tc .vmem S1x1 .f32) (harg6 : arg6.IsWhole) (arg7 : Memref sig .tc .vmem S1x1 .f32) (harg7 : arg7.IsWhole) (arg8 : Memref sig .tc .vmem S32x8732 .f32) (harg8 : arg8.IsWhole) (arg9 : Memref sig .tc .vmem S32x3 .f32) (harg9 : arg9.IsWhole) (hc0 : ¬ k0_cond1 i = 1#1)
    (x0 : Vec F S4x8732 .f32) (x1 : Vec F S1x32x4 .f32) (x2 : Vec F S1x32x1 .f32) (x3 : Vec F S1x4x8732 .f32) (x4 : Vec F S1x81x8732 .bf16) (d8 : Vec F S32x8732 .f32) (d9 : Vec F S32x3 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg8 fullShare d8 ∗ owns (c : Thread nD τ) arg9 fullShare d9
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg8 fullShare (setCen (i 0).val (cenv x0 x1 x2 x4) d8) ∗ owns (c : Thread nD τ) arg9 fullShare (setAux (i 0).val (auxv x0 x1 x2 x3 x4) d9)) -∗ K ⟨⟩))
          ⊢ wp frame (wpE (defs₀ (F := F)) Variants.none c none) E (cc0__mbl_kernel i arg1 harg1 arg2 harg2 arg3 harg3 arg4 harg4 arg5 harg5 arg6 harg6 arg7 harg7 arg8 harg8 arg9 harg9) K := by
    intro E K
    simp only [cc0__mbl_kernel_eq_skeleton]; unfold cc0__mbl_kernel_skel
    simp only [k0_part2_eq_skeleton, k0_part3_eq_skeleton, k0_part4_eq_skeleton, k0_part5_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4
    obtain rfl := harg8.eq_unread hfs0; obtain rfl := harg9.eq_unread hfs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HS0]
    · iexists _; isplitr; swap; · iexact HS0
      ipureintro
      rw [write_cen i arg8 _ d8 (harg8.read_unread d8)]
      have e : ∀ y, y = k0_pay2 (run_A.sl.r_9 c arg1 harg1 arg2 harg2 x0 x1) (run_A.sl.r_20 c arg5 harg5 x4)
              (run_A.sl.r_21 c arg5 harg5 x4) (run_A.sl.r_22 c arg1 harg1 arg2 harg2 arg3 harg3 x0 x1 x2) → y = cenv (View.readAt (Elt F) arg1.view (Rect.unit (s := S4x8732) ![0, 0] S4x8732.size inb_S4x8732_S4x8732_0_0).toLoadRect (harg1.unread x0)) (View.readAt (Elt F) arg2.view (Rect.unit (s := S1x32x4) ![0, 0, 0] S1x32x4.size inb_S1x32x4_S1x32x4_0_0_0).toLoadRect (harg2.unread x1)) (View.readAt (Elt F) arg3.view (Rect.unit (s := S1x32x1) ![0, 0, 0] S1x32x1.size inb_S1x32x1_S1x32x1_0_0_0).toLoadRect (harg3.unread x2)) (View.readAt (Elt F) arg5.view (Rect.unit (s := S1x81x8732) ![0, 0, 0] S1x81x8732.size inb_S1x81x8732_S1x81x8732_0_0_0).toLoadRect (harg5.unread x4)) := fun y h => h
      refine congrArg (setCen (i 0).val · d8) ((e _ rfl).trans ?_)
      rw [readAt_all harg1, readAt_all harg2, readAt_all harg3, readAt_all harg5]
    iexists _; isplitr; swap; · iexact HS1
    ipureintro
    rw [write_aux i arg9 _ d9 (harg9.read_unread d9)]
    have e : ∀ y, y = k0_pay3 (run_A.sl.r_9 c arg1 harg1 arg2 harg2 x0 x1)
              (run_A.sl.r_19 c arg1 harg1 arg2 harg2 arg3 harg3 arg4 harg4 x0 x1 x2 x3) (run_A.sl.r_20 c arg5 harg5 x4)
              (run_A.sl.r_21 c arg5 harg5 x4) (run_A.sl.r_22 c arg1 harg1 arg2 harg2 arg3 harg3 x0 x1 x2) → y = auxv (View.readAt (Elt F) arg1.view (Rect.unit (s := S4x8732) ![0, 0] S4x8732.size inb_S4x8732_S4x8732_0_0).toLoadRect (harg1.unread x0)) (View.readAt (Elt F) arg2.view (Rect.unit (s := S1x32x4) ![0, 0, 0] S1x32x4.size inb_S1x32x4_S1x32x4_0_0_0).toLoadRect (harg2.unread x1)) (View.readAt (Elt F) arg3.view (Rect.unit (s := S1x32x1) ![0, 0, 0] S1x32x1.size inb_S1x32x1_S1x32x1_0_0_0).toLoadRect (harg3.unread x2)) (View.readAt (Elt F) arg4.view (Rect.unit (s := S1x4x8732) ![0, 0, 0] S1x4x8732.size inb_S1x4x8732_S1x4x8732_0_0_0).toLoadRect (harg4.unread x3)) (View.readAt (Elt F) arg5.view (Rect.unit (s := S1x81x8732) ![0, 0, 0] S1x81x8732.size inb_S1x81x8732_S1x81x8732_0_0_0).toLoadRect (harg5.unread x4)) := fun y h => h
    refine congrArg (setAux (i 0).val · d9) ((e _ rfl).trans ?_)
    rw [readAt_all harg1, readAt_all harg2, readAt_all harg3, readAt_all harg4, readAt_all harg5]

end Cert.KernelIdeal.Value

end
-- ==== Proof.RunLast.lean ====
/- The body at the last point: it replaces the last row of each of the two tables kept, and from the two whole
   tables computes both results. -/
module

public import proofs.«01_k».proof.Proof.RunFirst
public import Idealize.ShloMosaic.Lib.WritesUnit
public import Idealize.ShloMosaic.Lib.WholeRead

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal Cert.KernelIdeal.Gen

variable {F : FTy → Type} [FloatOps F]

local notation "𝕄" => MT nD τ sig Unit (Elt F) ℕ (UR sig nD τ) ℕ

/-- A loop whose trips all do the same thing iterates it. -/
theorem fold_same {σ : Type} {n : ℕ} (f : σ → σ) (x : σ) : Scf.fold (fun (_ : Fin n) a => f a) x = f^[n] x := by
  rw [Scf.fold_eq]
  have h : ∀ (l : List (Fin n)) (y : σ), l.foldl (fun a _ => f a) y = f^[l.length] y := by
    intro l
    induction l with
    | nil => intro y; rfl
    | cons _ l ih => intro y; rw [List.foldl_cons, ih, List.length_cons, Function.iterate_succ_apply]
  rw [h, List.length_finRange]

/-- Storing a one-entry result replaces it. -/
theorem write_one {κ : Kind} {sp : Space} (m : Memref sig κ sp S1x1 .f32) (f : m.view.ty.Contents (Elt F))
    (inb : ∀ a, (![0, 0] : Fin 2 → ℕ) a + (![1, 1] : Fin 2 → ℕ) a ≤ S1x1.size a) (v : FVec F S1x1 .f32) :
    View.read (Elt F) m.view (m.view.writes (Elt F) f [⟨Rect.unit ![0, 0] ![1, 1] inb, v⟩]) = v := by
  funext j
  exact View.read_writes_cons_rows_of_mem m.view f inb v [] j j rfl (by simp) rfl

set_option maxHeartbeats 1000000 in
/-- The body at the last point, from any contents `d8`, `d9` of the two kept tables. -/
theorem run_B (c : Dev nD) (i : grid0.Coords) (arg1 : Memref sig .tc .vmem S4x8732 .f32) (harg1 : arg1.IsWhole) (arg2 : Memref sig .tc .vmem S1x32x4 .f32) (harg2 : arg2.IsWhole) (arg3 : Memref sig .tc .vmem S1x32x1 .f32) (harg3 : arg3.IsWhole) (arg4 : Memref sig .tc .vmem S1x4x8732 .f32) (harg4 : arg4.IsWhole) (arg5 : Memref sig .tc .vmem S1x81x8732 .bf16) (harg5 : arg5.IsWhole) (arg6 : Memref sig .tc .vmem S1x1 .f32) (harg6 : arg6.IsWhole) (arg7 : Memref sig .tc .vmem S1x1 .f32) (harg7 : arg7.IsWhole) (arg8 : Memref sig .tc .vmem S32x8732 .f32) (harg8 : arg8.IsWhole) (arg9 : Memref sig .tc .vmem S32x3 .f32) (harg9 : arg9.IsWhole) (hc0 : k0_cond1 i = 1#1)
    (x0 : Vec F S4x8732 .f32) (x1 : Vec F S1x32x4 .f32) (x2 : Vec F S1x32x1 .f32) (x3 : Vec F S1x4x8732 .f32) (x4 : Vec F S1x81x8732 .bf16) (d8 : Vec F S32x8732 .f32) (d9 : Vec F S32x3 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ owns (c : Thread nD τ) arg8 fullShare d8 ∗ owns (c : Thread nD τ) arg9 fullShare d9
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (outL (setAux (i 0).val (auxv x0 x1 x2 x3 x4) d9)) ∗ owns (c : Thread nD τ) arg7 fullShare (outC (setCen (i 0).val (cenv x0 x1 x2 x4) d8) (setAux (i 0).val (auxv x0 x1 x2 x3 x4) d9)) ∗ owns (c : Thread nD τ) arg8 fullShare (setCen (i 0).val (cenv x0 x1 x2 x4) d8) ∗ owns (c : Thread nD τ) arg9 fullShare (setAux (i 0).val (auxv x0 x1 x2 x3 x4) d9)) -∗ K ⟨⟩))
          ⊢ wp frame (wpE (defs₀ (F := F)) Variants.none c none) E (cc0__mbl_kernel i arg1 harg1 arg2 harg2 arg3 harg3 arg4 harg4 arg5 harg5 arg6 harg6 arg7 harg7 arg8 harg8 arg9 harg9) K := by
    intro E K
    simp only [cc0__mbl_kernel_eq_skeleton]; unfold cc0__mbl_kernel_skel
    simp only [k0_part2_eq_skeleton, k0_part3_eq_skeleton, k0_part4_eq_skeleton, k0_part5_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, %hf5, H5⟩, ⟨%d6, %f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4
    obtain rfl := harg8.eq_unread hfs0; obtain rfl := harg9.eq_unread hfs1
    sl_exec (disch := first | sl_exact hc0)
    sl_step
    have eS : ∀ y, y = View.read (Elt F) arg8.view (arg8.view.writes (Elt F) (harg8.unread d8) (run_B.sl.HS0_1 c i arg1 harg1 arg2 harg2 arg3 harg3 arg5 harg5 x0 x1 x2 x4)) → y = (setCen (i 0).val (cenv x0 x1 x2 x4) d8) := by
      rintro y rfl
      delta run_B.sl.HS0_1
      rw [write_cen i arg8 _ d8 (harg8.read_unread d8)]
      have e : ∀ y, y = k0_pay2 (run_B.sl.r_9 c arg1 harg1 arg2 harg2 x0 x1) (run_B.sl.r_20 c arg5 harg5 x4)
              (run_B.sl.r_21 c arg5 harg5 x4) (run_B.sl.r_22 c arg1 harg1 arg2 harg2 arg3 harg3 x0 x1 x2) → y = cenv (View.readAt (Elt F) arg1.view (Rect.unit (s := S4x8732) ![0, 0] S4x8732.size inb_S4x8732_S4x8732_0_0).toLoadRect (harg1.unread x0)) (View.readAt (Elt F) arg2.view (Rect.unit (s := S1x32x4) ![0, 0, 0] S1x32x4.size inb_S1x32x4_S1x32x4_0_0_0).toLoadRect (harg2.unread x1)) (View.readAt (Elt F) arg3.view (Rect.unit (s := S1x32x1) ![0, 0, 0] S1x32x1.size inb_S1x32x1_S1x32x1_0_0_0).toLoadRect (harg3.unread x2)) (View.readAt (Elt F) arg5.view (Rect.unit (s := S1x81x8732) ![0, 0, 0] S1x81x8732.size inb_S1x81x8732_S1x81x8732_0_0_0).toLoadRect (harg5.unread x4)) := fun y h => h
      refine congrArg (setCen (i 0).val · d8) ((e _ rfl).trans ?_)
      rw [readAt_all harg1, readAt_all harg2, readAt_all harg3, readAt_all harg5]
    have eA : ∀ y, y = View.read (Elt F) arg9.view (arg9.view.writes (Elt F) (harg9.unread d9) (run_B.sl.HS1_1 c i arg1 harg1 arg2 harg2 arg3 harg3 arg4 harg4 arg5 harg5 x0 x1 x2 x3 x4)) → y = (setAux (i 0).val (auxv x0 x1 x2 x3 x4) d9) := by
      rintro y rfl
      delta run_B.sl.HS1_1
      rw [write_aux i arg9 _ d9 (harg9.read_unread d9)]
      have e : ∀ y, y = k0_pay3 (run_B.sl.r_9 c arg1 harg1 arg2 harg2 x0 x1)
              (run_B.sl.r_19 c arg1 harg1 arg2 harg2 arg3 harg3 arg4 harg4 x0 x1 x2 x3) (run_B.sl.r_20 c arg5 harg5 x4)
              (run_B.sl.r_21 c arg5 harg5 x4) (run_B.sl.r_22 c arg1 harg1 arg2 harg2 arg3 harg3 x0 x1 x2) → y = auxv (View.readAt (Elt F) arg1.view (Rect.unit (s := S4x8732) ![0, 0] S4x8732.size inb_S4x8732_S4x8732_0_0).toLoadRect (harg1.unread x0)) (View.readAt (Elt F) arg2.view (Rect.unit (s := S1x32x4) ![0, 0, 0] S1x32x4.size inb_S1x32x4_S1x32x4_0_0_0).toLoadRect (harg2.unread x1)) (View.readAt (Elt F) arg3.view (Rect.unit (s := S1x32x1) ![0, 0, 0] S1x32x1.size inb_S1x32x1_S1x32x1_0_0_0).toLoadRect (harg3.unread x2)) (View.readAt (Elt F) arg4.view (Rect.unit (s := S1x4x8732) ![0, 0, 0] S1x4x8732.size inb_S1x4x8732_S1x4x8732_0_0_0).toLoadRect (harg4.unread x3)) (View.readAt (Elt F) arg5.view (Rect.unit (s := S1x81x8732) ![0, 0, 0] S1x81x8732.size inb_S1x81x8732_S1x81x8732_0_0_0).toLoadRect (harg5.unread x4)) := fun y h => h
      refine congrArg (setAux (i 0).val · d9) ((e _ rfl).trans ?_)
      rw [readAt_all harg1, readAt_all harg2, readAt_all harg3, readAt_all harg4, readAt_all harg5]
    have v4 : (run_B.sl.v224 c i arg1 harg1 arg2 harg2 arg3 harg3 arg5 harg5 arg8 harg8 x0 x1 x2 x4 d8) = (setCen (i 0).val (cenv x0 x1 x2 x4) d8) := by
      delta run_B.sl.v224
      exact (readAt_whole _ _).trans (eS _ rfl)
    have v5 : (run_B.sl.v225 c i arg1 harg1 arg2 harg2 arg3 harg3 arg4 harg4 arg5 harg5 arg9 harg9 x0 x1 x2 x3 x4 d9) = (setAux (i 0).val (auxv x0 x1 x2 x3 x4) d9) := by
      delta run_B.sl.v225
      exact (readAt_whole _ _).trans (eA _ rfl)
    have e23 : run_B.sl.r_23 c i arg1 harg1 arg2 harg2 arg3 harg3 arg4 harg4 arg5 harg5 arg8 harg8 arg9 harg9 x0 x1 x2 x3 x4 d8 d9 = brackets (setCen (i 0).val (cenv x0 x1 x2 x4) d8) (setAux (i 0).val (auxv x0 x1 x2 x3 x4) d9) := by
      delta run_B.sl.r_23
      rw [← v4, ← v5]
      refine (fold_same (halve _ _) _).trans ?_
      have ht : k0_t1_loop.trips = 30 := by decide
      rw [ht]
      rfl
    have e24 : run_B.sl.r_24 c i arg1 harg1 arg2 harg2 arg3 harg3 arg4 harg4 arg5 harg5 arg9 harg9 x0 x1 x2 x3 x4 d9 = k0_pay7 (setAux (i 0).val (auxv x0 x1 x2 x3 x4) d9) := by
      delta run_B.sl.r_24
      rw [v5]
    have e25 : run_B.sl.r_25 c i arg1 harg1 arg2 harg2 arg3 harg3 arg4 harg4 arg5 harg5 arg8 harg8 arg9 harg9 x0 x1 x2 x3 x4 d8 d9 = k0_pay15 (setCen (i 0).val (cenv x0 x1 x2 x4) d8) (setAux (i 0).val (auxv x0 x1 x2 x3 x4) d9) (brackets (setCen (i 0).val (cenv x0 x1 x2 x4) d8) (setAux (i 0).val (auxv x0 x1 x2 x3 x4) d9)).1 (brackets (setCen (i 0).val (cenv x0 x1 x2 x4) d8) (setAux (i 0).val (auxv x0 x1 x2 x3 x4) d9)).2 := by
      delta run_B.sl.r_25
      rw [v4, v5, e23]
    have e26 : run_B.sl.r_26 c i arg1 harg1 arg2 harg2 arg3 harg3 arg4 harg4 arg5 harg5 arg9 harg9 x0 x1 x2 x3 x4 d9 = k0_pay16 (setAux (i 0).val (auxv x0 x1 x2 x3 x4) d9) := by
      delta run_B.sl.r_26
      rw [v5]
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro
      rw [e24, e26]
      exact write_one arg6 _ _ _
    isplitl [H6]
    · iexists _; isplitr; swap; · iexact H6
      ipureintro
      rw [e24, e25]
      exact write_one arg7 _ _ _
    isplitl [HS0]
    · iexists _; isplitr; swap; · iexact HS0
      ipureintro
      exact eS _ rfl
    iexists _; isplitr; swap; · iexact HS1
    ipureintro
    exact eA _ rfl

end Cert.KernelIdeal.Value

end
-- ==== Proof.KernelRun.lean ====
/- The kernel's run: the two kept tables are filled row by row, one row a point, and the last point reads both
   whole. Every execution ends with the arguments unchanged and the two results a function of the tables. -/
module

public import proofs.«01_k».proof.Proof.RunLast
public import Idealize.ShloMosaic.Lib.Pipeline.ValueKit

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The grid point of image `b`. -/
def pt (b : Fin 32) : Fin cfg0.N := ⟨b.val, lt_of_lt_of_eq b.isLt (show (32 : ℕ) = cfg0.N from N_0.symm)⟩

/-- The row of losses image `b`'s point keeps. -/
def cenAt (c : Dev nD) (b : Fin 32) : FVec F S1x8732 .f32 :=
  cenv (iblk m c 0 (pt b)) (iblk m c 1 (pt b)) (iblk m c 2 (pt b)) (iblk m c 4 (pt b))

/-- The row of partial sums image `b`'s point keeps. -/
def auxAt (c : Dev nD) (b : Fin 32) : FVec F S1x3 .f32 :=
  auxv (iblk m c 0 (pt b)) (iblk m c 1 (pt b)) (iblk m c 2 (pt b)) (iblk m c 3 (pt b)) (iblk m c 4 (pt b))

/-- The table of losses, every row filled. -/
def tabS (c : Dev nD) : Vec F S32x8732 .f32 := fun j => cenAt m c (j 0) (ValueIdx.ix2 0 (j 1))

/-- The table of partial sums, every row filled. -/
def tabA (c : Dev nD) : Vec F S32x3 .f32 := fun j => auxAt m c (j 0) (ValueIdx.ix2 0 (j 1))

theorem pt_val (t : Fin cfg0.N) (h : t.val < 32) : pt ⟨t.val, h⟩ = t := rfl

/-- The grid coordinate of a point is its number. -/
theorem coord (t : Fin cfg0.N) : (grid0.coords t 0).val = t.val := by
  have ht : t.val < 32 := Nat.lt_of_lt_of_eq t.isLt N_0
  have e0 : (grid0.coords t 0).val = t.val / 1 % 32 := Pipeline.Grid.coords_val t 0 (by decide) rfl
  omega

/-- The body's branch is taken at the last point only. -/
theorem cond_iff (t : Fin cfg0.N) : k0_cond1 (grid0.coords t) = 1#1 ↔ t.val % 32 = 31 := by
  have ht : t.val < 32 := Nat.lt_of_lt_of_eq t.isLt N_0
  have e0 := coord t
  simp only [k0_cond1, e0]
  word_cmp

/-- Filling row `t` of a table whose earlier rows are filled fills the rows up to `t`. -/
theorem setCen_fill (c : Dev nD) (t : Fin cfg0.N) (d : Vec F S32x8732 .f32) (hd : ∀ j, (j 0).val < t.val → d j = tabS m c j) :
    ∀ j, (j 0).val < t.val + 1 →
      setCen (grid0.coords t 0).val (cenv (iblk m c 0 t) (iblk m c 1 t) (iblk m c 2 t) (iblk m c 4 t)) d j = tabS m c j := by
  intro j hj
  unfold setCen
  rw [coord]
  by_cases h : (j 0).val = t.val
  · rw [if_pos h]
    have e : pt (j 0) = t := Fin.ext h
    unfold tabS cenAt
    rw [e]
  · rw [if_neg h]
    exact hd j (by omega)

/-- The same of the table of partial sums. -/
theorem setAux_fill (c : Dev nD) (t : Fin cfg0.N) (d : Vec F S32x3 .f32) (hd : ∀ j, (j 0).val < t.val → d j = tabA m c j) :
    ∀ j, (j 0).val < t.val + 1 →
      setAux (grid0.coords t 0).val (auxv (iblk m c 0 t) (iblk m c 1 t) (iblk m c 2 t) (iblk m c 3 t) (iblk m c 4 t)) d j = tabA m c j := by
  intro j hj
  unfold setAux
  rw [coord]
  by_cases h : (j 0).val = t.val
  · rw [if_pos h]
    have e : pt (j 0) = t := Fin.ext h
    unfold tabA auxAt
    rw [e]
  · rw [if_neg h]
    exact hd j (by omega)

abbrev scS : Memref sig .tc .vmem S32x8732 .f32 := Memref.whole cc0_scratch0
abbrev scA : Memref sig .tc .vmem S32x3 .f32 := Memref.whole cc0_scratch1

/-- Before point `n` the two tables' first `n` rows are filled. -/
def Phi (c : Dev nD) (n : ℕ) : sProp 𝕄 :=
  iprop(iprop((∃ d, ⌜∀ j, (j 0).val < n → d j = tabS m c j⌝ ∗ owns (c : Thread nD τ) scS fullShare d)
    ∗ (∃ d, ⌜∀ j, (j 0).val < n → d j = tabA m c j⌝ ∗ owns (c : Thread nD τ) scA fullShare d)) ∗ (∃ r, prngReg c r))

theorem PhiA_eq (c : Dev nD) :
    (Pipeline.ΦA spec0 c : sProp 𝕄)
      = iprop(iprop((∃ d, owns (c : Thread nD τ) scS fullShare d) ∗ (∃ d, owns (c : Thread nD τ) scA fullShare d)) ∗ (∃ r, prngReg c r)) := by
  unfold Pipeline.ΦA; rw [scopedRest0_eq]; simp only [scS, scA, owns_whole]; try rfl

/-- The pipeline's proof data: every input's buffer at its block, the results' buffers at the results. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outL (tabA m c)
    | ⟨6, _⟩ => outC (tabS m c) (tabA m c)
  Φ t := Phi m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outL (tabA m c) := by dsimp only [dats]
theorem after_6 (c : Dev nD) (t : Fin cfg0.N) : (dats m 0 c).after 6 t = outC (tabS m c) (tabA m c) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

abbrev stg_0 (t : Fin cfg0.N) : Memref sig .tc .vmem S4x8732 .f32 := win0_0.stage (cfg0.slots t 0)
abbrev stg_1 (t : Fin cfg0.N) : Memref sig .tc .vmem S1x32x4 .f32 := win0_1.stage (cfg0.slots t 1)
abbrev stg_2 (t : Fin cfg0.N) : Memref sig .tc .vmem S1x32x1 .f32 := win0_2.stage (cfg0.slots t 2)
abbrev stg_3 (t : Fin cfg0.N) : Memref sig .tc .vmem S1x4x8732 .f32 := win0_3.stage (cfg0.slots t 3)
abbrev stg_4 (t : Fin cfg0.N) : Memref sig .tc .vmem S1x81x8732 .bf16 := win0_4.stage (cfg0.slots t 4)
abbrev stg_5 (t : Fin cfg0.N) : Memref sig .tc .vmem S1x1 .f32 := win0_5.stage (cfg0.slots t 5)
abbrev stg_6 (t : Fin cfg0.N) : Memref sig .tc .vmem S1x1 .f32 := win0_6.stage (cfg0.slots t 6)

/-- What the body starts a point with, -/
def bodyPre (c : Dev nD) (t : Fin cfg0.N) : sProp 𝕄 :=
  iprop((dats m 0 c).Φ t.castSucc ∗ (dats m 0 c).owesAt () t.castSucc
    ∗ (∃ d, owns (c : Thread nD τ) (stg_0 t) fullShare ((dats m 0 c).before 0 t d))
    ∗ (∃ d, owns (c : Thread nD τ) (stg_1 t) fullShare ((dats m 0 c).before 1 t d))
    ∗ (∃ d, owns (c : Thread nD τ) (stg_2 t) fullShare ((dats m 0 c).before 2 t d))
    ∗ (∃ d, owns (c : Thread nD τ) (stg_3 t) fullShare ((dats m 0 c).before 3 t d))
    ∗ (∃ d, owns (c : Thread nD τ) (stg_4 t) fullShare ((dats m 0 c).before 4 t d))
    ∗ (∃ d, owns (c : Thread nD τ) (stg_5 t) fullShare ((dats m 0 c).before 5 t d))
    ∗ (∃ d, owns (c : Thread nD τ) (stg_6 t) fullShare ((dats m 0 c).before 6 t d)))

/-- and what it ends it with. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

theorem leaves_0 (c : Dev nD) (t : Fin cfg0.N) : (dats m 0 c).leavesExact 0 t = owns (c : Thread nD τ) (stg_0 t) fullShare (iblk m c 0 t) := by
  have hi : cfg0.idle 0 (cfg0.grid.coords t) = false := rfl
  unfold Dat.leavesExact; rw [hi, after_0]

theorem leaves_1 (c : Dev nD) (t : Fin cfg0.N) : (dats m 0 c).leavesExact 1 t = owns (c : Thread nD τ) (stg_1 t) fullShare (iblk m c 1 t) := by
  have hi : cfg0.idle 1 (cfg0.grid.coords t) = false := rfl
  unfold Dat.leavesExact; rw [hi, after_1]

theorem leaves_2 (c : Dev nD) (t : Fin cfg0.N) : (dats m 0 c).leavesExact 2 t = owns (c : Thread nD τ) (stg_2 t) fullShare (iblk m c 2 t) := by
  have hi : cfg0.idle 2 (cfg0.grid.coords t) = false := rfl
  unfold Dat.leavesExact; rw [hi, after_2]

theorem leaves_3 (c : Dev nD) (t : Fin cfg0.N) : (dats m 0 c).leavesExact 3 t = owns (c : Thread nD τ) (stg_3 t) fullShare (iblk m c 3 t) := by
  have hi : cfg0.idle 3 (cfg0.grid.coords t) = false := rfl
  unfold Dat.leavesExact; rw [hi, after_3]

theorem leaves_4 (c : Dev nD) (t : Fin cfg0.N) : (dats m 0 c).leavesExact 4 t = owns (c : Thread nD τ) (stg_4 t) fullShare (iblk m c 4 t) := by
  have hi : cfg0.idle 4 (cfg0.grid.coords t) = false := rfl
  unfold Dat.leavesExact; rw [hi, after_4]

/-- A result's buffer is handed back as found at a point other than the last, -/
theorem leaves_5_early (c : Dev nD) (t : Fin cfg0.N) (h : ¬ t.val % 32 = 31) :
    (dats m 0 c).leavesExact 5 t = iprop(∃ d, owns (c : Thread nD τ) (stg_5 t) fullShare ((dats m 0 c).before 5 t d)) := by
  have hc : ¬ k0_cond1 (grid0.coords t) = 1#1 := fun e => h ((cond_iff t).mp e)
  refine Dat.leavesExact_idle (dats m 0 c) 5 t ?_ ?_
  · show (!(k0_cond1 (grid0.coords t) == 1#1)) = true
    simpa using hc
  · rw [← Bool.not_eq_true, flush0_5]; exact h

/-- and at the result at the last. -/
theorem leaves_5_last (c : Dev nD) (t : Fin cfg0.N) (h : t.val % 32 = 31) :
    (dats m 0 c).leavesExact 5 t = owns (c : Thread nD τ) (stg_5 t) fullShare (outL (tabA m c)) := by
  have hc : k0_cond1 (grid0.coords t) = 1#1 := (cond_iff t).mpr h
  have hi : cfg0.idle 5 (cfg0.grid.coords t) = false := by
    show (!(k0_cond1 (grid0.coords t) == 1#1)) = false
    rw [hc]; rfl
  unfold Dat.leavesExact; rw [hi, after_5]

/-- A result's buffer is handed back as found at a point other than the last, -/
theorem leaves_6_early (c : Dev nD) (t : Fin cfg0.N) (h : ¬ t.val % 32 = 31) :
    (dats m 0 c).leavesExact 6 t = iprop(∃ d, owns (c : Thread nD τ) (stg_6 t) fullShare ((dats m 0 c).before 6 t d)) := by
  have hc : ¬ k0_cond1 (grid0.coords t) = 1#1 := fun e => h ((cond_iff t).mp e)
  refine Dat.leavesExact_idle (dats m 0 c) 6 t ?_ ?_
  · show (!(k0_cond1 (grid0.coords t) == 1#1)) = true
    simpa using hc
  · rw [← Bool.not_eq_true, flush0_6]; exact h

/-- and at the result at the last. -/
theorem leaves_6_last (c : Dev nD) (t : Fin cfg0.N) (h : t.val % 32 = 31) :
    (dats m 0 c).leavesExact 6 t = owns (c : Thread nD τ) (stg_6 t) fullShare (outC (tabS m c) (tabA m c)) := by
  have hc : k0_cond1 (grid0.coords t) = 1#1 := (cond_iff t).mpr h
  have hi : cfg0.idle 6 (cfg0.grid.coords t) = false := by
    show (!(k0_cond1 (grid0.coords t) == 1#1)) = false
    rw [hc]; rfl
  unfold Dat.leavesExact; rw [hi, after_6]

set_option maxHeartbeats 1600000 in
/-- The body meets its contract at every point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = Phi m c (t.val + 1) from rfl, show (dats m 0 c).Φ t.castSucc = Phi m c t.val from rfl,
    show (dats m 0 c).owesAt () t.succ = (dats m 0 c).owesAt () t.castSucc from rfl,
    leaves_0, leaves_1, leaves_2, leaves_3, leaves_4]
  have hN : t.val < 32 := lt_of_lt_of_eq t.isLt (show cfg0.N = 32 from N_0)
  unfold Phi
  by_cases h0 : t.val % 32 = 31
  · rw [leaves_5_last m c t h0, leaves_6_last m c t h0]
    iintro ⟨⟨⟨⟨%dS, %hS, HS0⟩, ⟨%dA, %hA, HS1⟩⟩, Hg⟩, Ho, ⟨%d0, H0⟩, ⟨%d1, H1⟩, ⟨%d2, H2⟩, ⟨%d3, H3⟩, ⟨%d4, H4⟩, ⟨%d5, H5⟩, ⟨%d6, H6⟩⟩
    have fS := setCen_fill m c t dS hS
    have fA := setAux_fill m c t dA hA
    have eS : setCen (grid0.coords t 0).val (cenv (iblk m c 0 t) (iblk m c 1 t) (iblk m c 2 t) (iblk m c 4 t)) dS = tabS m c :=
      funext fun j => fS j (by have : (j 0).val < 32 := (j 0).isLt; omega)
    have eA : setAux (grid0.coords t 0).val (auxv (iblk m c 0 t) (iblk m c 1 t) (iblk m c 2 t) (iblk m c 3 t) (iblk m c 4 t)) dA = tabA m c :=
      funext fun j => fA j (by have : (j 0).val < 32 := (j 0).isLt; omega)
    rw [eS] at fS
    rw [eA] at fA
    iapply ((run_B c (grid0.coords t) _ _ _ _ _ _ _ _ _ _ _ _ _ _ _ _ _ _ ((cond_iff t).mpr h0) (iblk m c 0 t) (iblk m c 1 t) (iblk m c 2 t) (iblk m c 3 t) (iblk m c 4 t) dS dA) Set.univ _)
    rw [eS, eA]
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]
        · iexists _; isplitr; swap; · iexact HS0
          ipureintro; exact fS
        iexists _; isplitr; swap; · iexact HS1
        ipureintro; exact fA
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [leaves_5_early m c t h0, leaves_6_early m c t h0]
    iintro ⟨⟨⟨⟨%dS, %hS, HS0⟩, ⟨%dA, %hA, HS1⟩⟩, Hg⟩, Ho, ⟨%d0, H0⟩, ⟨%d1, H1⟩, ⟨%d2, H2⟩, ⟨%d3, H3⟩, ⟨%d4, H4⟩, H5, H6⟩
    have fS := setCen_fill m c t dS hS
    have fA := setAux_fill m c t dA hA
    iapply ((run_A c (grid0.coords t) _ _ _ _ _ _ _ _ _ _ _ _ _ _ _ _ _ _ (fun h => h0 ((cond_iff t).mp h)) (iblk m c 0 t) (iblk m c 1 t) (iblk m c 2 t) (iblk m c 3 t) (iblk m c 4 t) dS dA) Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, HS0, HS1⟩
    isplitl [HS0 HS1 Hg]
    · isplitl [HS0 HS1]
      · isplitl [HS0]
        · iexists _; isplitr; swap; · iexact HS0
          ipureintro; exact fS
        iexists _; isplitr; swap; · iexact HS1
        ipureintro; exact fA
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- Nothing is asked of the tables before the first point, -/
theorem phi_in (c : Dev nD) : (Pipeline.ΦA spec0 c : sProp 𝕄) ⊢ (dats m 0 c).Φ 0 := by
  rw [show (dats m 0 c).Φ 0 = Phi m c 0 from rfl, PhiA_eq]
  unfold Phi
  iintro ⟨⟨⟨%dS, HS0⟩, ⟨%dA, HS1⟩⟩, Hg⟩
  isplitl [HS0 HS1]
  · isplitl [HS0]
    · iexists _; isplitr; swap; · iexact HS0
      ipureintro; intro j hj; exact absurd hj (Nat.not_lt_zero _)
    iexists _; isplitr; swap; · iexact HS1
    ipureintro; intro j hj; exact absurd hj (Nat.not_lt_zero _)
  iexact Hg

/-- and after the last their contents are let go. -/
theorem phi_out (c : Dev nD) : (dats m 0 c).Φ (Fin.last cfg0.N) ⊢ (Pipeline.ΦA spec0 c : sProp 𝕄) := by
  rw [show (dats m 0 c).Φ (Fin.last cfg0.N) = Phi m c cfg0.N from rfl, PhiA_eq]
  unfold Phi
  iintro ⟨⟨⟨%dS, %hS, HS0⟩, ⟨%dA, %hA, HS1⟩⟩, Hg⟩
  isplitl [HS0 HS1]
  · isplitl [HS0]
    · iexists _; iexact HS0
    iexists _; iexact HS1
  iexact Hg

set_option backward.isDefEq.respectTransparency.types false in
/-- Every execution ends, with every semaphore at zero and the arrays as the proof data say. -/
theorem run_quiet : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := phi_in m) (hout := phi_out m)

theorem run_main : θ_run defs (onTc (τ := τ) (main (F := F))) (s₀ m ρ) (Pipeline.FramePost cfgs (dats m) 0 (V m)) :=
  (θ_run defs _ _).mono (fun _ h => h.1) (run_quiet m ρ)

/-- The frame: the argument arrays end unchanged and the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiet m ρ))

/-- The first result's array in the end. -/
theorem arr5 (c : Dev nD) : (dats m 0 c).arrAt 5 (cfgs 0).N = outL (tabA m c) := by
  refine (dats m 0 c).arrAt_eq_of_after_last 5 (pt 31) (by decide +kernel) _ fun j => ?_
  rw [after_5]
  rfl

/-- The second result's array in the end. -/
theorem arr6 (c : Dev nD) : (dats m 0 c).arrAt 6 (cfgs 0).N = outC (tabS m c) (tabA m c) := by
  refine (dats m 0 c).arrAt_eq_of_after_last 6 (pt 31) (by decide +kernel) _ fun j => ?_
  rw [after_6]
  rfl

end Cert.KernelIdeal.Value

end
-- ==== Proof.SameProgram.lean ====
/- The kernel and its idealization are one program: no operation is rewritten between them. So the frame, proved of the
   idealization at any float instance, is the kernel's too. -/
module

public import proofs.«01_k».proof.Defs
public import proofs.«01_k».proof.Proof.Gen.Kernel
public import proofs.«01_k».proof.Proof.KernelRun

@[expose] public section

set_option maxRecDepth 16384

noncomputable section

namespace Cert.SameProgram

open Idealize.ShloMosaic Idealize.ShloMosaic.TcCoe Idealize.SL.Sem

attribute [local instance] Cert.Kernel.Gen.facts Cert.KernelIdeal.Gen.facts

variable {F : FTy → Type} [FloatOps F]

theorem main_eq : Cert.Kernel.main (F := F) = Cert.KernelIdeal.main (F := F) := by with_unfolding_all rfl

theorem bodies_eq : Cert.Kernel.defs₀ (F := F) = Cert.KernelIdeal.defs₀ (F := F) := by
  funext pr
  match pr with
  | .tc =>
    funext ℓ a
    match ℓ, a with
    | 0, (t, s) => with_unfolding_all rfl
  | .scScalar _ => rfl
  | .scVector _ _ => rfl

theorem defs_eq : Cert.Kernel.defs (F := F) = Cert.KernelIdeal.defs (F := F) :=
  congrArg (Pipeline.defs Cert.KernelIdeal.pcfgs) (bodies_eq (F := F))

/-- The kernel ends with its arguments unchanged and its semaphores at zero. -/
theorem frame : Cert.quiescent_Kernel := fun m ρ _ =>
  (congrArg₂ (fun d p => θ_run d (onTc (τ := Cert.KernelIdeal.τ) p) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)) (defs_eq (F := Bits)) (main_eq (F := Bits))).mpr
    (Cert.KernelIdeal.Value.frame (F := Bits) m ρ)

end Cert.SameProgram
end
-- ==== Proof.BlockRead.lean ====
/- The blocks image `b`'s point is handed, read at an index as elements of the arguments. -/
module

public import proofs.«01_k».proof.Proof.KernelRun
public import Idealize.ShloMosaic.Lib.Pointwise

@[expose] public section

set_option maxRecDepth 16384

noncomputable section

namespace Cert.KernelIdeal.Value

open Idealize.ShloMosaic Idealize.ShloMosaic.TcCoe Idealize.SL.Sem Cert.KernelIdeal Cert.KernelIdeal.Gen

variable (m : (ℓ : Loc nD τ sig) → Buf (Elt Ideal) ℓ) (c : Dev nD)

/-- The arguments. -/
def arg0 : FVec Ideal S32x8732x4 .f32 := m ((c.tc : Thread nD τ).loc main_arg0)
def arg1 : FVec Ideal S32x8732x81 .f32 := m ((c.tc : Thread nD τ).loc main_arg1)
def arg2 : FVec Ideal S8732x4 .f32 := m ((c.tc : Thread nD τ).loc main_arg2)
def arg3 : FVec Ideal S32x32x4 .f32 := m ((c.tc : Thread nD τ).loc main_arg3)
def arg4 : IVec S32x32 32 := m ((c.tc : Thread nD τ).loc main_arg4)

/-- Window by window, the block a point is handed. -/
theorem idx : ∀ t : Fin cfg0.N, (win0_0.index t 0 = 0 ∧ win0_0.index t 1 = 0)
    ∧ (win0_1.index t 0 = t.val ∧ win0_1.index t 1 = 0 ∧ win0_1.index t 2 = 0)
    ∧ (win0_2.index t 0 = t.val ∧ win0_2.index t 1 = 0 ∧ win0_2.index t 2 = 0)
    ∧ (win0_3.index t 0 = t.val ∧ win0_3.index t 1 = 0 ∧ win0_3.index t 2 = 0)
    ∧ (win0_4.index t 0 = t.val ∧ win0_4.index t 1 = 0 ∧ win0_4.index t 2 = 0) :=
  (by decide +kernel : ∀ t : Fin grid0.N, _)

theorem pt_v (b : Fin 32) : (pt b).val = b.val := rfl

/-- The anchors, coordinate by coordinate. -/
theorem blk0 (b : Fin 32) (r : Fin 4) (d : Fin 8732) : iblk m c 0 (pt b) (ix2 r d) = arg2 m c (ix2 d r) := by
  blk_simp [iblk, idx (pt b), pt_v]
  entry_read
  pointwise [arg2]
  blk_ext [idx (pt b), pt_v]

/-- The image's boxes. -/
theorem blk1 (b : Fin 32) (k : Fin 32) (r : Fin 4) : iblk m c 1 (pt b) (ix3 0 k r) = arg3 m c (ix3 b k r) := by
  blk_simp [iblk, idx (pt b), pt_v]
  entry_read
  blk_ext [arg3, idx (pt b), pt_v]

/-- The image's labels, as floats. -/
theorem blk2 (b : Fin 32) (k : Fin 32) : iblk m c 2 (pt b) (ix3 0 k 0) = FloatOps.sitofp (F := Ideal) .f32 (arg4 m c (ix2 b k)) := by
  blk_simp [iblk, idx (pt b), pt_v]
  entry_read
  pointwise [arg4]
  show FloatOps.sitofp (F := Ideal) .f32 (arg4 m c (ix2 _ _)) = FloatOps.sitofp (F := Ideal) .f32 (arg4 m c (ix2 b k))
  refine congrArg (FloatOps.sitofp (F := Ideal) .f32) ?_
  blk_ext [idx (pt b), pt_v]

/-- The image's predicted offsets, coordinate by coordinate. -/
theorem blk3 (b : Fin 32) (r : Fin 4) (d : Fin 8732) : iblk m c 3 (pt b) (ix3 0 r d) = arg0 m c (ix3 b d r) := by
  blk_simp [iblk, idx (pt b), pt_v]
  entry_read
  pointwise [arg0]
  blk_ext [idx (pt b), pt_v]

/-- The image's logits, class by class. -/
theorem blk4 (b : Fin 32) (q : Fin 81) (d : Fin 8732) : iblk m c 4 (pt b) (ix3 0 q d) = arg1 m c (ix3 b d q) := by
  blk_simp [iblk, idx (pt b), pt_v]
  entry_read
  pointwise [arg1]
  blk_ext [idx (pt b), pt_v]

end Cert.KernelIdeal.Value
end
-- ==== Proof.Match.lean ====
/- The matching of one anchor box with the ground-truth boxes of one image, and its localisation loss,
   over the extended reals. -/
module

public import Idealize.ShloMosaic.Lib.Pointwise

@[expose] public section

noncomputable section

namespace Cert.Match

open Idealize.ShloMosaic

/-- One half. -/
abbrev half : EReal := Ideal.ofBits .f32 0x3F000000#32

/-- The overlap area of two boxes. -/
def overlap (t a : Fin 4 → EReal) : EReal :=
  max (min (t 2) (a 2) - max (t 0) (a 0)) 0 * max (min (t 3) (a 3) - max (t 1) (a 1)) 0

/-- Their overlap ratio. -/
def ratio (t a : Fin 4 → EReal) : EReal :=
  Ideal.div (overlap t a) ((t 2 - t 0) * (t 3 - t 1) + (a 2 - a 0) * (a 3 - a 1) - overlap t a)

/-- The largest of the 32 ratios. -/
def top (f : Fin 32 → EReal) : EReal := Finset.univ.sup f

theorem top_mem (f : Fin 32 → EReal) : ∃ k, f k = top f := by
  obtain ⟨k, -, h⟩ := Finset.exists_mem_eq_sup (s := (Finset.univ : Finset (Fin 32))) ⟨0, Finset.mem_univ _⟩ f
  exact ⟨k, h.symm⟩

/-- The first place where the largest is reached. -/
def first (f : Fin 32 → EReal) : Fin 32 :=
  (Finset.univ.filter fun k => f k = top f).min' (by
    obtain ⟨k, h⟩ := top_mem f
    exact ⟨k, by simp [h]⟩)

theorem first_eq (f : Fin 32 → EReal) : f (first f) = top f := by
  have h := Finset.min'_mem (Finset.univ.filter fun k => f k = top f) (by
    obtain ⟨k, h⟩ := top_mem f
    exact ⟨k, by simp [h]⟩)
  exact (Finset.mem_filter.mp h).2

theorem first_le (f : Fin 32 → EReal) (k : Fin 32) (h : f k = top f) : first f ≤ k :=
  Finset.min'_le _ _ (by simp [h])

theorem le_top (f : Fin 32 → EReal) (k : Fin 32) : f k ≤ top f := Finset.le_sup (Finset.mem_univ k)

/-- The pattern of negative infinity. -/
theorem negInf : Ideal.ofBits .f32 0xFF800000#32 = (⊥ : EReal) := by
  simp [Ideal.ofBits, Ideal.ieee]

/-- A fold by maximum from below everything is the largest. -/
theorem fold_top (f : Fin 32 → EReal) :
    Finset.univ.fold max (Ideal.ofBits .f32 0xFF800000#32) (fun k => f k) = top f := by
  have e : Ideal.ofBits .f32 0xFF800000#32 = (⊥ : EReal) := negInf
  rw [e]; rfl

/-- The small indices read as integers. -/
theorem toInt_small (k : Fin 32) : (BitVec.ofNat 32 k.val).toInt = (k.val : ℤ) := by
  revert k; decide

/-- The least row number among those where the largest is reached is the first place. -/
theorem fold_first (f : Fin 32 → EReal) :
    Finset.univ.fold IntOp.minsi 2147483647#32 (fun k : Fin 32 => if f k = top f then BitVec.ofNat 32 k.val else 32#32)
      = BitVec.ofNat 32 (first f).val := by
  set g : Fin 32 → BitVec 32 := fun k => if f k = top f then BitVec.ofNat 32 k.val else 32#32 with hg
  have key : ∀ c : BitVec 32, c.toInt ≤ (Finset.univ.fold IntOp.minsi 2147483647#32 g).toInt
      ↔ c.toInt ≤ (2147483647#32 : BitVec 32).toInt ∧ ∀ k ∈ (Finset.univ : Finset (Fin 32)), c.toInt ≤ (g k).toInt := by
    intro c
    refine Finset.fold_op_rel_iff_and (r := fun a b : BitVec 32 => a.toInt ≤ b.toInt) ?_
    intro x y z
    simp only [IntOp.minsi, BitVec.slt]
    by_cases h : y.toInt < z.toInt <;> simp [h] <;> omega
  have hfirst : g (first f) = BitVec.ofNat 32 (first f).val := if_pos (first_eq f)
  apply BitVec.eq_of_toInt_eq
  apply le_antisymm
  · have := ((key _).1 le_rfl).2 (first f) (Finset.mem_univ _)
    rwa [hfirst] at this
  · refine (key _).2 ⟨?_, fun k _ => ?_⟩
    · rw [toInt_small]
      have := (first f).isLt
      have e : (2147483647#32 : BitVec 32).toInt = 2147483647 := by decide
      rw [e]; omega
    · rw [toInt_small]
      by_cases h : f k = top f
      · rw [show g k = BitVec.ofNat 32 k.val from if_pos h, toInt_small]
        exact_mod_cast first_le f k h
      · rw [show g k = 32#32 from if_neg h]
        have := (first f).isLt
        have e : (32#32 : BitVec 32).toInt = 32 := by decide
        rw [e]; omega

/-- A sum against the indicator of that place reads its entry. -/
theorem sum_first (f c : Fin 32 → EReal) :
    ∑ k : Fin 32, c k * FloatOps.sitofp (F := Ideal) .f32 (BitVec.setWidth 32 (IntOp.cmpi .eq (BitVec.ofNat 32 k.val)
      (Finset.univ.fold IntOp.minsi 2147483647#32 fun k : Fin 32 => if f k = top f then BitVec.ofNat 32 k.val else 32#32)))
      = c (first f) := by
  rw [fold_first]
  have e : ∀ k : Fin 32, FloatOps.sitofp (F := Ideal) .f32 (BitVec.setWidth 32 (IntOp.cmpi .eq (BitVec.ofNat 32 k.val)
      (BitVec.ofNat 32 (first f).val))) = if k = first f then (1 : EReal) else 0 := by
    intro k
    show (((BitVec.setWidth 32 (IntOp.cmpi .eq (BitVec.ofNat 32 k.val) (BitVec.ofNat 32 (first f).val))).toInt : ℝ) : EReal) = _
    by_cases h : k = first f
    · subst h
      simp [IntOp.cmpi]
    · have hne : BitVec.ofNat 32 k.val ≠ BitVec.ofNat 32 (first f).val := fun hh => h (Fin.ext (by
        have := congrArg BitVec.toInt hh
        rw [toInt_small, toInt_small] at this
        exact_mod_cast this))
      have hb : (BitVec.ofNat 32 k.val == BitVec.ofNat 32 (first f).val) = false := by simpa using hne
      simp [IntOp.cmpi, h, hb]
  rw [Finset.sum_eq_single (first f)]
  · rw [e, if_pos rfl, mul_one]
  · intro k _ hk
    rw [e, if_neg hk, mul_zero]
  · intro h; exact absurd (Finset.mem_univ _) h

/-- The encoded offset of the centre of the interval `[l, h]` from the anchor's `[l', h']`, -/
def centre (l h l' h' : EReal) : EReal :=
  Ideal.div (((l + h) * half - (l' + h') * half) * Ideal.ofBits .f32 0x41200000#32) (h' - l')

/-- and the encoded ratio of their lengths. -/
def scale (l h l' h' : EReal) : EReal :=
  Ideal.log (Ideal.div (h - l) (h' - l')) * Ideal.ofBits .f32 0x40A00000#32

/-- The smooth L1 function. -/
def smooth (d : EReal) : EReal :=
  if max d (-d) < 1 then half * d * d else max d (-d) - half

/-- A sum of reals is a real. -/
theorem coe_sum {ι : Type} (S : Finset ι) (f : ι → ℝ) : ∑ b ∈ S, (f b : EReal) = ((∑ b ∈ S, f b : ℝ) : EReal) := by
  classical
  induction S using Finset.induction_on with
  | empty => simp
  | insert a S ha ih => rw [Finset.sum_insert ha, Finset.sum_insert ha, ih, EReal.coe_add]

end Cert.Match

end
-- ==== Proof.KernelPoint.lean ====
/- What one image's point computes towards the first result, read at an index: the overlap ratios, the matched
   anchors, the matched boxes and labels, and the masked sum of the localisation losses. -/
module

public import proofs.«01_k».proof.Proof.Point
public import proofs.«01_k».proof.Proof.Match

@[expose] public section

set_option maxRecDepth 16384

noncomputable section

namespace Cert.KernelIdeal.Value

open Idealize.ShloMosaic Idealize.ShloMosaic.TcCoe Cert.KernelIdeal Cert.KernelIdeal.Gen Cert.Match

/-- The ratios of the point's boxes with one anchor. -/
def ratios (x0 : Vec Ideal S4x8732 .f32) (x1 : Vec Ideal S1x32x4 .f32) (d : Fin 8732) (k : Fin 32) : EReal :=
  ratio (fun r => x1 (ix3 0 k r)) (fun r => x0 (ix2 r d))

theorem pay24_at (x0 : Vec Ideal S4x8732 .f32) (x1 : Vec Ideal S1x32x4 .f32) (k : Fin 32) (d : Fin 8732) :
    k0_pay24 x1 x0 (ix2 k d) = ratios x0 x1 d k := by
  pointwise [k0_pay24, k0_pay17, k0_pay20, k0_pay21, k0_pay22, k0_pay23, k0_pay19, ratios, ratio, overlap]

theorem pay25_at (x0 : Vec Ideal S4x8732 .f32) (x1 : Vec Ideal S1x32x4 .f32) (d : Fin 8732) :
    k0_pay25 x1 x0 (ix2 0 d) = top (ratios x0 x1 d) := by
  pointwise [k0_pay25, pay24_at]
  exact fold_top _

/-- The matched anchors: the largest ratio is at least one half. -/
theorem pos_at (x0 : Vec Ideal S4x8732 .f32) (x1 : Vec Ideal S1x32x4 .f32) (d : Fin 8732) :
    posv x0 x1 (ix2 0 d) = BitVec.ofBool (decide (half ≤ top (ratios x0 x1 d))) := by
  pointwise [posv, k0_pay27, pay25_at]

/-- The product with the indicator of the first best box reads that box's coordinates and label. -/
theorem pay28_at (x0 : Vec Ideal S4x8732 .f32) (x1 : Vec Ideal S1x32x4 .f32) (x2 : Vec Ideal S1x32x1 .f32) (q : Fin 5) (d : Fin 8732) :
    k0_pay28 (k0_pay17 x1) (k0_pay18 x2) (k0_pay24 x1 x0) rows (k0_pay26 x1 x0) (ix2 q d)
      = if h : q.val < 4 then x1 (ix3 0 (first (ratios x0 x1 d)) ⟨q.val, h⟩) else x2 (ix3 0 (first (ratios x0 x1 d)) 0) := by
  pointwise [k0_pay28, rows, k0_pay17, k0_pay18, pay24_at, k0_pay26, pay25_at]
  exact sum_first (ratios x0 x1 d) fun k => if h : q.val < 4 then x1 (ix3 0 k ⟨q.val, h⟩) else x2 (ix3 0 k 0)

section Encode

variable (v1 : FVec Ideal S32x4 .f32) (v3 : FVec Ideal S32x1 .f32) (l h : FVec Ideal S1x8732 .f32)
  (I : FVec Ideal S32x8732 .f32) (R : IVec S32x8732 32) (B : FVec Ideal S32x8732 .f32) (d : Fin 8732)

theorem pay36_at : k0_pay36 v1 v3 l h I R B (ix2 0 d)
    = centre (k0_pay28 v1 v3 I R B (ix2 0 d)) (k0_pay28 v1 v3 I R B (ix2 2 d)) (l (ix2 0 d)) (h (ix2 0 d)) := by
  pointwise [k0_pay36, k0_pay29, k0_pay31, k0_pay34, centre]

theorem pay37_at : k0_pay37 v1 v3 l h I R B (ix2 0 d)
    = centre (k0_pay28 v1 v3 I R B (ix2 1 d)) (k0_pay28 v1 v3 I R B (ix2 3 d)) (l (ix2 0 d)) (h (ix2 0 d)) := by
  pointwise [k0_pay37, k0_pay30, k0_pay32, k0_pay35, centre]

theorem pay38_at : k0_pay38 v1 v3 l h I R B (ix2 0 d)
    = scale (k0_pay28 v1 v3 I R B (ix2 0 d)) (k0_pay28 v1 v3 I R B (ix2 2 d)) (l (ix2 0 d)) (h (ix2 0 d)) := by
  pointwise [k0_pay38, k0_pay29, k0_pay31, k0_pay34, scale]

theorem pay40_at : k0_pay40 (k0_pay39 v1 v3 l h I R B) (ix2 0 d)
    = scale (k0_pay28 v1 v3 I R B (ix2 1 d)) (k0_pay28 v1 v3 I R B (ix2 3 d)) (l (ix2 0 d)) (h (ix2 0 d)) := by
  pointwise [k0_pay40, k0_pay39, k0_pay30, k0_pay32, k0_pay35, scale]

end Encode

section Sums

/-- The masked sum of one coordinate's losses. -/
def coordSum (p : Fin 8732 → BitVec 1) (x g : Fin 8732 → EReal) : EReal :=
  ∑ d, Scalar.select (p d) (smooth (x d - g d)) 0

theorem pay42_at (p : IVec S1x8732 1) (u v : FVec Ideal S1x8732 .f32) (x3 : Vec Ideal S1x4x8732 .f32) :
    k0_pay42 p u v x3 (ix2 0 0)
      = coordSum (fun d => p (ix2 0 d)) (fun d => x3 (ix3 0 0 d)) (fun d => u (ix2 0 d))
        + coordSum (fun d => p (ix2 0 d)) (fun d => x3 (ix3 0 1 d)) (fun d => v (ix2 0 d)) := by
  pointwise [k0_pay42, k0_pay41]
  simp only [Finset.univ_unique, Finset.sum_singleton]
  rfl

theorem pay44_at (p : IVec S1x8732 1) (u v : FVec Ideal S1x8732 .f32) (x3 : Vec Ideal S1x4x8732 .f32) (l : FVec Ideal S1x1 .f32) :
    k0_pay44 p v (k0_pay41 x3) l (k0_pay43 u x3) (ix2 0 0)
      = l (ix2 0 0) + coordSum (fun d => p (ix2 0 d)) (fun d => x3 (ix3 0 2 d)) (fun d => u (ix2 0 d))
        + coordSum (fun d => p (ix2 0 d)) (fun d => x3 (ix3 0 3 d)) (fun d => v (ix2 0 d)) := by
  pointwise [k0_pay44, k0_pay43, k0_pay41]
  simp only [Finset.univ_unique, Finset.sum_singleton]
  rfl

theorem aux_count (p : IVec S1x8732 1) (l : FVec Ideal S1x1 .f32) (a : FVec Ideal S81x8732 .f32) (b c : FVec Ideal S1x8732 .f32) :
    k0_pay3 p l a b c (ix2 0 0) = ∑ d : Fin 8732, ((((p (ix2 0 d)).setWidth 32).toInt : ℝ) : EReal) := by
  pointwise [k0_pay3]
  simp only [Finset.univ_unique, Finset.sum_singleton]
  exact Finset.sum_congr rfl fun d _ => rfl

theorem aux_loc (p : IVec S1x8732 1) (l : FVec Ideal S1x1 .f32) (a : FVec Ideal S81x8732 .f32) (b c : FVec Ideal S1x8732 .f32) :
    k0_pay3 p l a b c (ix2 0 1) = l (ix2 0 0) := by
  pointwise [k0_pay3]

end Sums

/-- The first result divides the sum of the second column by the sum of the first, or by 1. -/
theorem outL_at (A : Vec Ideal S32x3 .f32) :
    outL A (ix2 0 0) = Ideal.div (∑ b, A (ix2 b 1)) (max (∑ b, A (ix2 b 0)) 1) := by
  pointwise [outL, k0_pay5, k0_pay7, k0_pay16, k0_pay4]
  simp only [Finset.univ_unique, Finset.sum_singleton]

end Cert.KernelIdeal.Value

end
-- ==== Proof.LocValue.lean ====
/- What one image's point keeps of the first result: the number of matched anchors and the localisation loss, in terms of
   the blocks it is handed. -/
module

public import proofs.«01_k».proof.Proof.KernelPoint

@[expose] public section

set_option maxRecDepth 16384

noncomputable section

namespace Cert.KernelIdeal.Value

open Idealize.ShloMosaic Idealize.ShloMosaic.TcCoe Cert.KernelIdeal Cert.KernelIdeal.Gen Cert.Match

variable (x0 : Vec Ideal S4x8732 .f32) (x1 : Vec Ideal S1x32x4 .f32) (x2 : Vec Ideal S1x32x1 .f32) (x3 : Vec Ideal S1x4x8732 .f32)

/-- A coordinate of the box an anchor is matched to. -/
def mate (d : Fin 8732) (r : Fin 4) : EReal := x1 (ix3 0 (first (ratios x0 x1 d)) r)

theorem low_0 (d : Fin 8732) : k0_pay20 x0 (ix2 0 d) = x0 (ix2 0 d) := by pointwise [k0_pay20, k0_pay19]
theorem low_1 (d : Fin 8732) : k0_pay21 x0 (ix2 0 d) = x0 (ix2 1 d) := by pointwise [k0_pay21, k0_pay19]
theorem high_0 (d : Fin 8732) : k0_pay22 x0 (ix2 0 d) = x0 (ix2 2 d) := by pointwise [k0_pay22, k0_pay19]
theorem high_1 (d : Fin 8732) : k0_pay23 x0 (ix2 0 d) = x0 (ix2 3 d) := by pointwise [k0_pay23, k0_pay19]

theorem mate_at (q : Fin 4) (q' : Fin 5) (h : q'.val = q.val) (d : Fin 8732) :
    k0_pay28 (k0_pay17 x1) (k0_pay18 x2) (k0_pay24 x1 x0) rows (k0_pay26 x1 x0) (ix2 q' d) = mate x0 x1 d q := by
  rw [pay28_at, dif_pos (by omega)]
  have e : (⟨q'.val, by omega⟩ : Fin 4) = q := Fin.ext h
  rw [e]
  rfl

/-- The point's localisation loss: one masked sum for each coordinate. -/
theorem locv_at : locv x0 x1 x2 x3 (ix2 0 0)
    = coordSum (fun d => posv x0 x1 (ix2 0 d)) (fun d => x3 (ix3 0 0 d)) (fun d => centre (mate x0 x1 d 0) (mate x0 x1 d 2) (x0 (ix2 0 d)) (x0 (ix2 2 d)))
      + coordSum (fun d => posv x0 x1 (ix2 0 d)) (fun d => x3 (ix3 0 1 d)) (fun d => centre (mate x0 x1 d 1) (mate x0 x1 d 3) (x0 (ix2 1 d)) (x0 (ix2 3 d)))
      + coordSum (fun d => posv x0 x1 (ix2 0 d)) (fun d => x3 (ix3 0 2 d)) (fun d => scale (mate x0 x1 d 0) (mate x0 x1 d 2) (x0 (ix2 0 d)) (x0 (ix2 2 d)))
      + coordSum (fun d => posv x0 x1 (ix2 0 d)) (fun d => x3 (ix3 0 3 d)) (fun d => scale (mate x0 x1 d 1) (mate x0 x1 d 3) (x0 (ix2 1 d)) (x0 (ix2 3 d))) := by
  unfold locv locA
  rw [pay44_at, pay42_at]
  simp only [pay36_at, pay37_at, pay38_at, pay40_at, low_0, low_1, high_0, high_1,
    mate_at x0 x1 x2 0 0 rfl, mate_at x0 x1 x2 1 1 rfl, mate_at x0 x1 x2 2 2 rfl, mate_at x0 x1 x2 3 3 rfl]

end Cert.KernelIdeal.Value

end
-- ==== Proof.RefTerm.lean ====
/- The reference's two results as functions of its five arguments, stage by stage. -/
module

public import proofs.«01_k».proof.Proof.Gen.ReferenceIdeal

@[expose] public section

set_option maxRecDepth 16384

noncomputable section

namespace Cert.RefTerm

open Idealize.ShloMosaic Idealize.ShloMosaic.TcCoe Cert.ReferenceIdeal Cert.ReferenceIdeal.Gen

variable {F : FTy → Type} [FloatOps F]

/-- The clipped overlap extents along both axes, of every box with every anchor. -/
def ext (A2 : FVec F S8732x4 .f32) (A3 : FVec F S32x32x4 .f32) : FVec F S32x32x8732x2 .f32 :=
  maximumf (broadcastInDim S32x32x8732x2 ![] bcast_S_S32x32x8732x2 (id (constant (F := F) S_ .f32 0x00000000#32)))
    (subf
      (minimumf
        (broadcastInDim S32x32x8732x2 ![0, 1, 2, 3] bcast_S32x32x1x2_S32x32x8732x2_0_1_2_3
          (broadcastInDim S32x32x1x2 ![0, 1, 3] bcast_S32x32x2_S32x32x1x2_0_1_3
            (extractStridedSlice S32x32x2 ![0, 0, 2] A3 slices_S32x32x4_S32x32x2_0_0_2)))
        (broadcastInDim S32x32x8732x2 ![0, 1, 2, 3] bcast_S1x1x8732x2_S32x32x8732x2_0_1_2_3
          (broadcastInDim S1x1x8732x2 ![1, 2, 3] bcast_S1x8732x2_S1x1x8732x2_1_2_3
            (broadcastInDim S1x8732x2 ![1, 2] bcast_S8732x2_S1x8732x2_1_2
              (extractStridedSlice S8732x2 ![0, 2] A2 slices_S8732x4_S8732x2_0_2)))))
      (maximumf
        (broadcastInDim S32x32x8732x2 ![0, 1, 2, 3] bcast_S32x32x1x2_S32x32x8732x2_0_1_2_3
          (broadcastInDim S32x32x1x2 ![0, 1, 3] bcast_S32x32x2_S32x32x1x2_0_1_3
            (extractStridedSlice S32x32x2 ![0, 0, 0] A3 slices_S32x32x4_S32x32x2_0_0_0)))
        (broadcastInDim S32x32x8732x2 ![0, 1, 2, 3] bcast_S1x1x8732x2_S32x32x8732x2_0_1_2_3
          (broadcastInDim S1x1x8732x2 ![1, 2, 3] bcast_S1x8732x2_S1x1x8732x2_1_2_3
            (broadcastInDim S1x8732x2 ![1, 2] bcast_S8732x2_S1x8732x2_1_2
              (extractStridedSlice S8732x2 ![0, 0] A2 slices_S8732x4_S8732x2_0_0))))))

/-- The overlap areas. -/
def inter (A2 : FVec F S8732x4 .f32) (A3 : FVec F S32x32x4 .f32) : FVec F S32x32x8732 .f32 :=
  mulf
    (shapeCast S32x32x8732 (extractStridedSlice S32x32x8732x1 ![0, 0, 0, 0] (ext A2 A3) slices_S32x32x8732x2_S32x32x8732x1_0_0_0_0) shapeCasts_S32x32x8732x1_S32x32x8732)
    (shapeCast S32x32x8732 (extractStridedSlice S32x32x8732x1 ![0, 0, 0, 1] (ext A2 A3) slices_S32x32x8732x2_S32x32x8732x1_0_0_0_1) shapeCasts_S32x32x8732x1_S32x32x8732)

/-- One coordinate of every box, and of every anchor. -/
def boxc (A3 : FVec F S32x32x4 .f32) (r : ℕ) (h : S32x32x4.Slices ![0, 0, r] S32x32x1) : FVec F S32x32 .f32 :=
  shapeCast S32x32 (extractStridedSlice S32x32x1 ![0, 0, r] A3 h) shapeCasts_S32x32x1_S32x32
def ancc (A2 : FVec F S8732x4 .f32) (r : ℕ) (h : S8732x4.Slices ![0, r] S8732x1) : FVec F S8732 .f32 :=
  shapeCast S8732 (extractStridedSlice S8732x1 ![0, r] A2 h) shapeCasts_S8732x1_S8732

/-- The overlap ratios. -/
def iou (A2 : FVec F S8732x4 .f32) (A3 : FVec F S32x32x4 .f32) : FVec F S32x32x8732 .f32 :=
  Host.divf (inter A2 A3)
    (subf
      (addf
        (broadcastInDim S32x32x8732 ![0, 1, 2] bcast_S32x32x1_S32x32x8732_0_1_2
          (broadcastInDim S32x32x1 ![0, 1] bcast_S32x32_S32x32x1_0_1
            (mulf (subf (boxc A3 2 slices_S32x32x4_S32x32x1_0_0_2) (boxc A3 0 slices_S32x32x4_S32x32x1_0_0_0))
              (subf (boxc A3 3 slices_S32x32x4_S32x32x1_0_0_3) (boxc A3 1 slices_S32x32x4_S32x32x1_0_0_1)))))
        (broadcastInDim S32x32x8732 ![0, 1, 2] bcast_S1x1x8732_S32x32x8732_0_1_2
          (broadcastInDim S1x1x8732 ![1, 2] bcast_S1x8732_S1x1x8732_1_2
            (broadcastInDim S1x8732 ![1] bcast_S8732_S1x8732_1
              (mulf (subf (ancc A2 2 slices_S8732x4_S8732x1_0_2) (ancc A2 0 slices_S8732x4_S8732x1_0_0))
                (subf (ancc A2 3 slices_S8732x4_S8732x1_0_3) (ancc A2 1 slices_S8732x4_S8732x1_0_1)))))))
      (inter A2 A3))

/-- The largest ratio at each anchor, -/
def best (I : FVec F S32x32x8732 .f32) : FVec F S32x8732 .f32 :=
  Host.reduce FloatOps.maximumf I (constant (F := F) S_ .f32 0xFF800000#32) reducesTo_S32x32x8732_S32x8732_d1 h_S_

/-- The index that an arg-max over some axes returns, -/
def argIndex {s t u : Shape} {axes : List (Fin s.rank)} {φ : FTy} {β : Type} (f : F φ × β → F φ × β → F φ × β)
    (x : FVec F s φ) (y : s.Idx → β) (a : u.Idx → F φ) (b : u.Idx → β) (h : s.ReducesTo axes t) (hu : 0 < u.numel) : t.Idx → β :=
  fun j => (Host.argReduce f x y a b h hu j).2

/-- and the box it is reached at, -/
def arg (I : FVec F S32x32x8732 .f32) : IVec S32x8732 32 :=
  argIndex reducer_argmax_f32_i32 I (iotaInDim S32x32x8732 32 1) (constant (F := F) S_ .f32 0xFF800000#32)
    (constantI S_ 32 0#32) reducesTo_S32x32x8732_S32x8732_d1 h_S_

/-- as an index of a gather. -/
def wrap (a : IVec S32x8732 32) : IVec S32x8732x1 32 :=
  broadcastInDim S32x8732x1 ![0, 1] bcast_S32x8732_S32x8732x1_0_1
    (select (cmpi .slt a (broadcastInDim S32x8732 ![] bcast_S_S32x8732 (constantI S_ 32 0#32)))
      (addi a (broadcastInDim S32x8732 ![] bcast_S_S32x8732 (constantI S_ 32 32#32))) a)

/-- Each anchor's class: 0 where the largest ratio is below one half, the matched box's label elsewhere. -/
def cls (I : FVec F S32x32x8732 .f32) (A4 : IVec S32x32 32) : IVec S32x8732 32 :=
  select (cmpf .olt (best I) (broadcastInDim S32x8732 ![] bcast_S_S32x8732 (constant (F := F) S_ .f32 0x3F000000#32)))
    (broadcastInDim S32x8732 ![1] bcast_S8732_S32x8732_1 (broadcastInDim S8732 ![] bcast_S_S8732 (id (constantI S_ 32 0#32))))
    (Host.gather gather_S32x32_S32x8732x1_S32x8732_n_1_0_0_1_2_11 A4 (wrap (arg I)))

/-- Each anchor's matched box. -/
def mbox (I : FVec F S32x32x8732 .f32) (A3 : FVec F S32x32x4 .f32) : FVec F S32x8732x4 .f32 :=
  Host.gather gather_S32x32x4_S32x8732x1_S32x8732x4_2_1_0_0_1_2_114 A3 (wrap (arg I))

/-- The anchors' sizes. -/
def asize (A2 : FVec F S8732x4 .f32) : FVec F S8732x2 .f32 :=
  subf (extractStridedSlice S8732x2 ![0, 2] A2 slices_S8732x4_S8732x2_0_2) (extractStridedSlice S8732x2 ![0, 0] A2 slices_S8732x4_S8732x2_0_0)

/-- The same at every image. -/
def spread (x : FVec F S8732x2 .f32) : FVec F S32x8732x2 .f32 :=
  broadcastInDim S32x8732x2 ![0, 1, 2] bcast_S1x8732x2_S32x8732x2_0_1_2 (broadcastInDim S1x8732x2 ![1, 2] bcast_S8732x2_S1x8732x2_1_2 x)

/-- The encoded matched boxes. -/
def enc (A2 : FVec F S8732x4 .f32) (M : FVec F S32x8732x4 .f32) : FVec F S32x8732x4 .f32 :=
  concatenate S32x8732x4 2
    [⟨S32x8732x2, Host.divf
        (mulf
          (subf
            (mulf (addf (extractStridedSlice S32x8732x2 ![0, 0, 0] M slices_S32x8732x4_S32x8732x2_0_0_0) (extractStridedSlice S32x8732x2 ![0, 0, 2] M slices_S32x8732x4_S32x8732x2_0_0_2))
              (broadcastInDim S32x8732x2 ![] bcast_S_S32x8732x2 (constant (F := F) S_ .f32 0x3F000000#32)))
            (spread (mulf (addf (extractStridedSlice S8732x2 ![0, 0] A2 slices_S8732x4_S8732x2_0_0) (extractStridedSlice S8732x2 ![0, 2] A2 slices_S8732x4_S8732x2_0_2))
              (broadcastInDim S8732x2 ![] bcast_S_S8732x2 (constant (F := F) S_ .f32 0x3F000000#32)))))
          (broadcastInDim S32x8732x2 ![] bcast_S_S32x8732x2 (constant (F := F) S_ .f32 0x41200000#32)))
        (spread (asize A2))⟩,
      ⟨S32x8732x2, mulf
        (Host.log (Host.divf
          (subf (extractStridedSlice S32x8732x2 ![0, 0, 2] M slices_S32x8732x4_S32x8732x2_0_0_2) (extractStridedSlice S32x8732x2 ![0, 0, 0] M slices_S32x8732x4_S32x8732x2_0_0_0))
          (spread (asize A2))))
        (broadcastInDim S32x8732x2 ![] bcast_S_S32x8732x2 (constant (F := F) S_ .f32 0x40A00000#32))⟩]
    concatenates_S32x8732x2_S32x8732x2_S32x8732x4_d2

/-- The matched anchors. -/
def pos (C : IVec S32x8732 32) : IVec S32x8732 1 :=
  cmpi .sgt C (broadcastInDim S32x8732 ![] bcast_S_S32x8732 (constantI S_ 32 0#32))

/-- The smooth L1 function, entry by entry. -/
def smooth (d : FVec F S32x8732x4 .f32) : FVec F S32x8732x4 .f32 :=
  select (cmpf .olt (Host.absf d) (broadcastInDim S32x8732x4 ![] bcast_S_S32x8732x4 (constant (F := F) S_ .f32 0x3F800000#32)))
    (mulf (mulf (broadcastInDim S32x8732x4 ![] bcast_S_S32x8732x4 (constant (F := F) S_ .f32 0x3F000000#32)) d) d)
    (subf (Host.absf d) (broadcastInDim S32x8732x4 ![] bcast_S_S32x8732x4 (constant (F := F) S_ .f32 0x3F000000#32)))

/-- The localisation loss before its normalisation. -/
def locSum (A0 : FVec F S32x8732x4 .f32) (E : FVec F S32x8732x4 .f32) (P : IVec S32x8732 1) : FVec F S_ .f32 :=
  Host.reduceAdd
    (mulf (smooth (subf A0 E))
      (broadcastInDim S32x8732x4 ![0, 1, 2] bcast_S32x8732x1_S32x8732x4_0_1_2
        (uitofp .f32 (broadcastInDim S32x8732x1 ![0, 1] bcast_S32x8732_S32x8732x1_0_1 P))))
    (constant (F := F) S_ .f32 0x00000000#32) reducesTo_S32x8732x4_S_d0_1_2 h_S_

/-- How many matched anchors each image has, -/
def counts (P : IVec S32x8732 1) : IVec S32x1 32 :=
  broadcastInDim S32x1 ![0] bcast_S32_S32x1_0
    (Host.reduce IntOp.addi (extui 32 P natLt_1_32) (constantI S_ 32 0#32) reducesTo_S32x8732_S32_d1 h_S_)

/-- and all images together, at least 1. -/
def total (P : IVec S32x8732 1) : FVec F S_ .f32 :=
  sitofp .f32 (maxsi (Host.reduce IntOp.addi (counts P) (constantI S_ 32 0#32) reducesTo_S32x1_S_d0_1 h_S_) (constantI S_ 32 1#32))

/-- The first result. -/
def lossL (A0 : FVec F S32x8732x4 .f32) (A2 : FVec F S8732x4 .f32) (A3 : FVec F S32x32x4 .f32) (A4 : IVec S32x32 32) : FVec F S1x1 .f32 :=
  shapeCast S1x1
    (Host.divf (locSum A0 (enc A2 (mbox (iou A2 A3) A3)) (pos (cls (iou A2 A3) A4))) (total (pos (cls (iou A2 A3) A4))))
    shapeCasts_S_S1x1

end Cert.RefTerm
end
-- ==== Proof.RefArg.lean ====
/- The reference's arg-max over the boxes, read at an index. -/
module

public import proofs.«01_k».proof.Proof.RefTerm
public import proofs.«01_k».proof.Proof.Match

@[expose] public section

set_option maxRecDepth 16384

noncomputable section

namespace Cert.RefTerm

open Idealize.ShloMosaic Idealize.ShloMosaic.TcCoe Cert.ReferenceIdeal Cert.ReferenceIdeal.Gen Cert.Match

/-- One pair is at least as good as another: a larger value, or the same value at an index not larger. -/
def Beats (p q : EReal × BitVec 32) : Prop := q.1 < p.1 ∨ (q.1 = p.1 ∧ p.2.toInt ≤ q.2.toInt)

theorem Beats.refl (p : EReal × BitVec 32) : Beats p p := Or.inr ⟨rfl, le_refl _⟩

theorem Beats.trans {p q r : EReal × BitVec 32} (h : Beats p q) (h' : Beats q r) : Beats p r := by
  rcases h with h | ⟨h, h2⟩ <;> rcases h' with h' | ⟨h', h2'⟩
  · exact Or.inl (h'.trans h)
  · exact Or.inl (h' ▸ h)
  · exact Or.inl (h ▸ h')
  · exact Or.inr ⟨h'.trans h, h2.trans h2'⟩

/-- The reducer returns one of its two pairs, the one that beats both. -/
theorem reducer_spec (a b : EReal × BitVec 32) :
    (reducer_argmax_f32_i32 (F := Ideal) a b = a ∨ reducer_argmax_f32_i32 (F := Ideal) a b = b)
      ∧ Beats (reducer_argmax_f32_i32 (F := Ideal) a b) a ∧ Beats (reducer_argmax_f32_i32 (F := Ideal) a b) b := by
  obtain ⟨v, i⟩ := a
  obtain ⟨w, k⟩ := b
  have e : reducer_argmax_f32_i32 (F := Ideal) (v, i) (w, k)
      = (if w < v then v else w, if w < v ∨ (v = w ∧ i.toInt < k.toInt) then i else k) := by
    simp only [reducer_argmax_f32_i32, Ideal.cmpf_def, Ideal.cmp, IntOp.cmpi, IntOp.ori, IntOp.andi, BitVec.slt]
    by_cases h1 : w < v <;> by_cases h2 : v = w <;> by_cases h3 : i.toInt < k.toInt <;>
      simp [h1, h2, h3, Scalar.select]
  rw [e]
  rcases lt_trichotomy w v with h | h | h
  · rw [if_pos h, if_pos (Or.inl h : w < v ∨ _)]
    exact ⟨Or.inl rfl, Beats.refl _, Or.inl h⟩
  · subst h
    by_cases h3 : i.toInt < k.toInt
    · rw [if_neg (lt_irrefl _), if_pos (Or.inr ⟨rfl, h3⟩)]
      exact ⟨Or.inl rfl, Beats.refl _, Or.inr ⟨rfl, h3.le⟩⟩
    · rw [if_neg (lt_irrefl _), if_neg (by rintro (h | ⟨-, h⟩); exacts [lt_irrefl _ h, h3 h])]
      exact ⟨Or.inr rfl, Or.inr ⟨rfl, not_lt.1 h3⟩, Beats.refl _⟩
  · have h1 : ¬w < v := not_lt.2 h.le
    have h2 : ¬(w < v ∨ (v = w ∧ i.toInt < k.toInt)) := by
      rintro (h' | ⟨h', -⟩)
      · exact h1 h'
      · exact absurd h' h.ne
    rw [if_neg h1, if_neg h2]
    exact ⟨Or.inr rfl, Or.inl h, Beats.refl _⟩

/-- The fold returns one of its pairs, one that beats all of them. -/
theorem fold_spec (L : List (EReal × BitVec 32)) : ∀ a : EReal × BitVec 32,
    (L.foldl (reducer_argmax_f32_i32 (F := Ideal)) a = a ∨ L.foldl (reducer_argmax_f32_i32 (F := Ideal)) a ∈ L)
      ∧ Beats (L.foldl (reducer_argmax_f32_i32 (F := Ideal)) a) a
      ∧ ∀ p ∈ L, Beats (L.foldl (reducer_argmax_f32_i32 (F := Ideal)) a) p := by
  induction L with
  | nil => exact fun a => ⟨Or.inl rfl, Beats.refl _, by simp⟩
  | cons b L ih =>
    intro a
    obtain ⟨h1, h2, h3⟩ := reducer_spec a b
    obtain ⟨k1, k2, k3⟩ := ih (reducer_argmax_f32_i32 (F := Ideal) a b)
    rw [List.foldl_cons]
    refine ⟨?_, k2.trans h2, ?_⟩
    · rcases k1 with k1 | k1
      · rw [k1]
        rcases h1 with h1 | h1
        · exact Or.inl h1
        · exact Or.inr (by rw [h1]; exact List.mem_cons_self)
      · exact Or.inr (List.mem_cons_of_mem _ k1)
    · intro p hp
      rcases List.mem_cons.1 hp with rfl | hp
      · exact k2.trans h3
      · exact k3 p hp

/-- The reduction over the boxes drops the middle coordinate. -/
theorem drop_eq (i : S32x32x8732.Idx) :
    (reducesTo_S32x32x8732_S32x8732_d1).drop i = (ix2 (i 0) (i 2) : S32x8732.Idx) := by
  funext a
  match a with
  | ⟨0, _⟩ => rfl
  | ⟨1, _⟩ => rfl

/-- What the fold runs over: the entries whose index the reduction sends to `j`. -/
theorem mem_fiber {s t : Shape} {axes : List (Fin s.rank)} {α β : Type} (x : s.Idx → α) (y : s.Idx → β)
    (h : s.ReducesTo axes t) (j : t.Idx) (p : α × β) :
    p ∈ Host.argReduceFiber x y h j ↔ ∃ i : s.Idx, h.drop i = j ∧ (x i, y i) = p := by
  simp only [Host.argReduceFiber, List.mem_map, List.mem_filter, List.mem_finRange, true_and, decide_eq_true_eq]
  constructor
  · rintro ⟨n, hn, he⟩
    exact ⟨_, hn, he⟩
  · rintro ⟨i, hi, he⟩
    exact ⟨s.rowMajor i, by rw [Equiv.symm_apply_apply]; exact hi, by rw [Equiv.symm_apply_apply]; exact he⟩

/-- The best pair of a list holding each ratio with its box, and perhaps the initial pair: the first best box. -/
theorem best_pair (f : Fin 32 → EReal) (R : EReal × BitVec 32)
    (hk : ∀ k : Fin 32, Beats R (f k, BitVec.ofNat 32 k.val))
    (hm : (R.1 = ⊥ ∧ R.2 = 0#32) ∨ ∃ k : Fin 32, R.1 = f k ∧ R.2 = BitVec.ofNat 32 k.val) :
    R.2 = BitVec.ofNat 32 (first f).val := by
  have hm' : ∃ k : Fin 32, R.1 = f k ∧ R.2 = BitVec.ofNat 32 k.val := by
    rcases hm with ⟨hb, h0⟩ | hm
    · refine ⟨0, ?_, h0⟩
      rcases hk 0 with h | ⟨h, -⟩
      · rw [hb] at h; exact absurd h (not_lt.2 bot_le)
      · exact h.symm
    · exact hm
  obtain ⟨k, hv, hi⟩ := hm'
  have htop : f k = top f := by
    refine le_antisymm (le_top f k) ?_
    obtain ⟨q, hq⟩ := top_mem f
    rw [← hq, ← hv]
    rcases hk q with h | ⟨h, -⟩
    · exact h.le
    · exact h.le
  rw [hi]
  have hle : k ≤ first f := by
    rcases hk (first f) with h | ⟨-, h⟩
    · exact absurd h (by rw [hv, htop]; simp [first_eq])
    · rw [hi] at h
      simp only [toInt_small] at h
      exact Fin.le_def.2 (by exact_mod_cast h)
  rw [le_antisymm hle (first_le f k htop)]

/-- The index returned belongs to a pair, the initial one or one of the entries sent to `j`, that beats all of those. -/
theorem argIndex_spec {s t u : Shape} {axes : List (Fin s.rank)} (x : FVec Ideal s .f32) (y : s.Idx → BitVec 32)
    (a : u.Idx → Ideal .f32) (b : u.Idx → BitVec 32) (h : s.ReducesTo axes t) (hu : 0 < u.numel) (j : t.Idx) :
    ∃ R : EReal × BitVec 32, R.2 = argIndex (F := Ideal) reducer_argmax_f32_i32 x y a b h hu j
      ∧ (R = (a (Shape.Idx.first hu), b (Shape.Idx.first hu)) ∨ ∃ i : s.Idx, h.drop i = j ∧ (x i, y i) = R)
      ∧ ∀ i : s.Idx, h.drop i = j → Beats R (x i, y i) := by
  obtain ⟨h1, -, h3⟩ := fold_spec (Host.argReduceFiber x y h j) (a (Shape.Idx.first hu), b (Shape.Idx.first hu))
  refine ⟨_, ?_, ?_, fun i hi => h3 _ ((mem_fiber x y h j _).2 ⟨i, hi, rfl⟩)⟩
  · unfold argIndex
    rw [Ideal.argReduce_eq_reduce2, Host.reduce2_eq_foldl_fiber]
  · rcases h1 with h1 | h1
    · exact Or.inl h1
    · exact Or.inr ((mem_fiber x y h j _).1 h1)

/-- The arg-max is the first box at which the largest ratio is reached. -/
theorem arg_at (I : FVec Ideal S32x32x8732 .f32) (b : Fin 32) (d : Fin 8732) :
    arg I (ix2 b d) = BitVec.ofNat 32 (first fun k => I (ix3 b k d)).val := by
  obtain ⟨R, hR, h1, h3⟩ := argIndex_spec I (iotaInDim S32x32x8732 32 1) (constant (F := Ideal) S_ .f32 0xFF800000#32)
    (constantI S_ 32 0#32) reducesTo_S32x32x8732_S32x8732_d1 h_S_ (ix2 b d)
  refine Eq.trans hR.symm (best_pair (fun k => I (ix3 b k d)) R (fun k => h3 (ix3 b k d) (drop_eq _)) ?_)
  rcases h1 with h1 | ⟨i, hi, he⟩
  · rw [h1]
    exact Or.inl ⟨negInf, rfl⟩
  · right
    rw [drop_eq] at hi
    have e0 : i 0 = b := congrFun hi 0
    have e2 : i 2 = d := congrFun hi 1
    have ei : i = ix3 b (i 1) d := by
      funext a
      match a with
      | ⟨0, _⟩ => exact e0
      | ⟨1, _⟩ => rfl
      | ⟨2, _⟩ => exact e2
    refine ⟨i 1, ?_, ?_⟩
    · rw [← he]
      exact congrArg I ei
    · rw [← he]; rfl

end Cert.RefTerm
end
-- ==== Proof.RefGather.lean ====
/- The reference's two gathers by the matched box's number, read at an index. -/
module

public import proofs.«01_k».proof.Proof.RefTerm
public import proofs.«01_k».proof.Proof.Match

@[expose] public section

set_option maxRecDepth 16384

noncomputable section

namespace Cert.RefTerm

open Idealize.ShloMosaic Idealize.ShloMosaic.TcCoe Cert.ReferenceIdeal Cert.ReferenceIdeal.Gen Cert.Match

/-- The clamped start index of a gather is the index itself. -/
theorem clamp_small (k : Fin 32) : min (BitVec.ofNat 32 k.val).toInt.toNat 31 = k.val := by
  rw [toInt_small]; omega

/-- The gather of the labels, -/
theorem gather_lab (x : IVec S32x32 32) (a : IVec S32x8732x1 32) (b : Fin 32) (d : Fin 8732) (k : Fin 32)
    (h : a (ix3 b d 0) = BitVec.ofNat 32 k.val) :
    Host.gather gather_S32x32_S32x8732x1_S32x8732_n_1_0_0_1_2_11 x a (ix2 b d) = x (ix2 b k) := by
  unfold Host.gather
  congr 1
  funext q
  refine Fin.ext ?_
  generalize hD : gather_S32x32_S32x8732x1_S32x8732_n_1_0_0_1_2_11 = D
  show D.start (ix2 b d) a q + D.batchCoord (ix2 b d) q + D.offCoord (ix2 b d) q = _
  match q with
  | ⟨0, _⟩ =>
    rw [GatherDims.start_batching _ _ _ _ (by subst hD; exact List.mem_singleton.mpr rfl),
      GatherDims.offCoord_eq_zero _ _ _ (fun h => ((GatherDims.mem_sKept _ _).mp h).2 (by subst hD; exact List.mem_singleton.mpr rfl))]
    simp only [Nat.zero_add, Nat.add_zero]
    unfold GatherDims.batchCoord
    rw [dif_pos (by subst hD; exact List.mem_singleton.mpr rfl)]
    subst hD
    rfl
  | ⟨1, _⟩ =>
    rw [GatherDims.batchCoord_eq_zero _ _ _ (by subst hD; exact (by decide : (1 : Fin 2) ∉ ([0] : List (Fin 2)))),
      GatherDims.offCoord_eq_zero _ _ _ (fun h => ((GatherDims.mem_sKept _ _).mp h).1 (by subst hD; exact List.mem_singleton.mpr rfl))]
    simp only [Nat.add_zero]
    unfold GatherDims.start
    have hmem : (⟨1, by decide⟩ : Fin S32x32.rank) ∈ D.startIndexMap := by subst hD; exact List.mem_singleton.mpr rfl
    rw [dif_pos hmem]
    have hsi : D.siIdx (ix2 b d) ⟨List.idxOf (⟨1, by decide⟩ : Fin S32x32.rank) D.startIndexMap, List.idxOf_lt_length_iff.2 hmem⟩ = ix3 b d 0 := by
      subst hD
      funext c
      match c with
      | ⟨0, _⟩ => rfl
      | ⟨1, _⟩ => rfl
      | ⟨2, _⟩ => rfl
    rw [hsi, h]
    subst hD
    exact clamp_small k

/-- and of the boxes. -/
theorem gather_box (x : FVec Ideal S32x32x4 .f32) (a : IVec S32x8732x1 32) (b : Fin 32) (d : Fin 8732) (r : Fin 4) (k : Fin 32)
    (h : a (ix3 b d 0) = BitVec.ofNat 32 k.val) :
    Host.gather gather_S32x32x4_S32x8732x1_S32x8732x4_2_1_0_0_1_2_114 x a (ix3 b d r) = x (ix3 b k r) := by
  unfold Host.gather
  congr 1
  funext q
  refine Fin.ext ?_
  generalize hD : gather_S32x32x4_S32x8732x1_S32x8732x4_2_1_0_0_1_2_114 = D
  show D.start (ix3 b d r) a q + D.batchCoord (ix3 b d r) q + D.offCoord (ix3 b d r) q = _
  match q with
  | ⟨0, _⟩ =>
    rw [GatherDims.start_batching _ _ _ _ (by subst hD; exact List.mem_singleton.mpr rfl),
      GatherDims.offCoord_eq_zero _ _ _ (fun h => ((GatherDims.mem_sKept _ _).mp h).2 (by subst hD; exact List.mem_singleton.mpr rfl))]
    simp only [Nat.zero_add, Nat.add_zero]
    unfold GatherDims.batchCoord
    rw [dif_pos (by subst hD; exact List.mem_singleton.mpr rfl)]
    subst hD
    rfl
  | ⟨1, _⟩ =>
    rw [GatherDims.batchCoord_eq_zero _ _ _ (by subst hD; exact (by decide : (1 : Fin 3) ∉ ([0] : List (Fin 3)))),
      GatherDims.offCoord_eq_zero _ _ _ (fun h => ((GatherDims.mem_sKept _ _).mp h).1 (by subst hD; exact List.mem_singleton.mpr rfl))]
    simp only [Nat.add_zero]
    unfold GatherDims.start
    have hmem : (⟨1, by decide⟩ : Fin S32x32x4.rank) ∈ D.startIndexMap := by subst hD; exact List.mem_singleton.mpr rfl
    rw [dif_pos hmem]
    have hsi : D.siIdx (ix3 b d r) ⟨List.idxOf (⟨1, by decide⟩ : Fin S32x32x4.rank) D.startIndexMap, List.idxOf_lt_length_iff.2 hmem⟩ = ix3 b d 0 := by
      subst hD
      funext c
      match c with
      | ⟨0, _⟩ => rfl
      | ⟨1, _⟩ => rfl
      | ⟨2, _⟩ => rfl
    rw [hsi, h]
    subst hD
    exact clamp_small k
  | ⟨2, _⟩ =>
    rw [GatherDims.batchCoord_eq_zero _ _ _ (by subst hD; exact (by decide : (2 : Fin 3) ∉ ([0] : List (Fin 3))))]
    unfold GatherDims.start
    rw [dif_neg (by subst hD; exact (by decide : (2 : Fin 3) ∉ ([1] : List (Fin 3))))]
    simp only [Nat.zero_add, Nat.add_zero]
    unfold GatherDims.offCoord
    rw [dif_pos (by subst hD; exact (by decide : (2 : Fin 3) ∈ gather_S32x32x4_S32x8732x1_S32x8732x4_2_1_0_0_1_2_114.sKept))]
    subst hD
    rfl

end Cert.RefTerm
end
-- ==== Proof.RefPoint.lean ====
/- The reference's stages towards its first result, read at an index. -/
module

public import proofs.«01_k».proof.Proof.RefArg
public import proofs.«01_k».proof.Proof.RefGather
public import Idealize.ShloMosaic.Lib.IndicatorCount

@[expose] public section

set_option maxRecDepth 16384

noncomputable section

namespace Cert.RefTerm

open Idealize.ShloMosaic Idealize.ShloMosaic.TcCoe Cert.ReferenceIdeal Cert.ReferenceIdeal.Gen Cert.Match

theorem zero_const : (id (constant (F := Ideal) S_ .f32 0x00000000#32) : FVec Ideal S_ .f32) ix0 = (0 : EReal) :=
  Ideal.ofBits_zero_f32

/-- The overlap ratio of a box and an anchor. -/
theorem iou_at (A2 : FVec Ideal S8732x4 .f32) (A3 : FVec Ideal S32x32x4 .f32) (b k : Fin 32) (d : Fin 8732) :
    iou A2 A3 (ix3 b k d) = ratio (fun r => A3 (ix3 b k r)) (fun r => A2 (ix2 d r)) := by
  pointwise [iou, inter, ext, boxc, ancc, ratio, overlap]
  simp only [zero_const, max_comm (0 : EReal)]

theorem best_at (I : FVec Ideal S32x32x8732 .f32) (b : Fin 32) (d : Fin 8732) :
    best I (ix2 b d) = top (fun k => I (ix3 b k d)) := by
  pointwise [best]
  exact fold_top _

/-- A box's number needs no wrapping. -/
theorem wrap_at (a : IVec S32x8732 32) (b : Fin 32) (d : Fin 8732) (k : Fin 32) (h : a (ix2 b d) = BitVec.ofNat 32 k.val) :
    wrap a (ix3 b d 0) = BitVec.ofNat 32 k.val := by
  pointwise [wrap]
  rw [h]
  clear h
  revert k
  decide

theorem cls_read (B : FVec Ideal S32x8732 .f32) (G : IVec S32x8732 32) (b : Fin 32) (d : Fin 8732) :
    select (cmpf .olt B (broadcastInDim S32x8732 ![] bcast_S_S32x8732 (constant (F := Ideal) S_ .f32 0x3F000000#32)))
      (broadcastInDim S32x8732 ![1] bcast_S8732_S32x8732_1 (broadcastInDim S8732 ![] bcast_S_S8732 (id (constantI S_ 32 0#32))))
      G (ix2 b d) = if B (ix2 b d) < half then 0#32 else G (ix2 b d) := by
  pointwise
  rfl

/-- An anchor's class: the first best box's label where the best ratio is at least one half. -/
theorem cls_at (I : FVec Ideal S32x32x8732 .f32) (A4 : IVec S32x32 32) (b : Fin 32) (d : Fin 8732) :
    cls I A4 (ix2 b d) = if half ≤ top (fun k => I (ix3 b k d)) then A4 (ix2 b (first fun k => I (ix3 b k d))) else 0#32 := by
  refine (cls_read (best I) _ b d).trans ?_
  rw [best_at, gather_lab A4 _ b d _ (wrap_at _ b d _ (arg_at I b d))]
  by_cases h : half ≤ top (fun k => I (ix3 b k d))
  · rw [if_neg (not_lt.2 h), if_pos h]
  · rw [if_pos (not_le.1 h), if_neg h]

/-- An anchor's matched box. -/
theorem mbox_at (I : FVec Ideal S32x32x8732 .f32) (A3 : FVec Ideal S32x32x4 .f32) (b : Fin 32) (d : Fin 8732) (r : Fin 4) :
    mbox I A3 (ix3 b d r) = A3 (ix3 b (first fun k => I (ix3 b k d)) r) :=
  gather_box A3 _ b d r _ (wrap_at _ b d _ (arg_at I b d))

section Encode

variable (A2 : FVec Ideal S8732x4 .f32) (M : FVec Ideal S32x8732x4 .f32) (b : Fin 32) (d : Fin 8732)

theorem enc_0 : enc A2 M (ix3 b d 0) = centre (M (ix3 b d 0)) (M (ix3 b d 2)) (A2 (ix2 d 0)) (A2 (ix2 d 2)) := by
  pointwise [enc, spread, asize, centre]
theorem enc_1 : enc A2 M (ix3 b d 1) = centre (M (ix3 b d 1)) (M (ix3 b d 3)) (A2 (ix2 d 1)) (A2 (ix2 d 3)) := by
  pointwise [enc, spread, asize, centre]
theorem enc_2 : enc A2 M (ix3 b d 2) = scale (M (ix3 b d 0)) (M (ix3 b d 2)) (A2 (ix2 d 0)) (A2 (ix2 d 2)) := by
  pointwise [enc, spread, asize, scale]
theorem enc_3 : enc A2 M (ix3 b d 3) = scale (M (ix3 b d 1)) (M (ix3 b d 3)) (A2 (ix2 d 1)) (A2 (ix2 d 3)) := by
  pointwise [enc, spread, asize, scale]

end Encode

/-- The matched anchors, when every label is positive. -/
theorem pos_at (I : FVec Ideal S32x32x8732 .f32) (A4 : IVec S32x32 32) (hA : ∀ b k, 0 < (A4 (ix2 b k)).toInt) (b : Fin 32) (d : Fin 8732) :
    pos (cls I A4) (ix2 b d) = BitVec.ofBool (decide (half ≤ top fun k => I (ix3 b k d))) := by
  have e : ∀ C : IVec S32x8732 32, pos C (ix2 b d) = IntOp.cmpi .sgt (C (ix2 b d)) 0#32 := by
    intro C
    pointwise [pos]
  rw [e, cls_at]
  by_cases h : half ≤ top (fun k => I (ix3 b k d))
  · rw [if_pos h]
    have := hA b (first fun k => I (ix3 b k d))
    simp [IntOp.cmpi, BitVec.slt, h, this]
  · rw [if_neg h]
    simp [IntOp.cmpi, h]

/-- The localisation loss before its normalisation, as a sum over images, anchors and coordinates. -/
theorem locSum_at (A0 E : FVec Ideal S32x8732x4 .f32) (P : IVec S32x8732 1) :
    locSum A0 E P ix0 = ∑ b : Fin 32, ∑ d : Fin 8732, ∑ r : Fin 4,
      Scalar.select (P (ix2 b d)) (Match.smooth (A0 (ix3 b d r) - E (ix3 b d r))) 0 := by
  pointwise [locSum, RefTerm.smooth]
  refine Finset.sum_congr rfl fun b _ => Finset.sum_congr rfl fun d _ => Finset.sum_congr rfl fun r _ => ?_
  have e : ∀ (p : BitVec 1) (x : EReal), x * FloatOps.uitofp (F := Ideal) .f32 p = Scalar.select p x 0 := by
    intro p x
    show x * (((p.toNat : ℝ)) : EReal) = _
    rcases BitVec.eq_zero_or_eq_one p with rfl | rfl
    · simp [Scalar.select]
    · simp [Scalar.select]
  exact e _ _

/-- How many anchors of an image are matched. -/
def hits (P : IVec S32x8732 1) (b : Fin 32) : ℕ := (Finset.univ.filter fun d : Fin 8732 => P (ix2 b d) = 1#1).card

theorem hits_le (P : IVec S32x8732 1) (b : Fin 32) : hits P b ≤ 8732 := by
  refine (Finset.card_le_univ _).trans ?_
  simp

theorem counts_at (P : IVec S32x8732 1) (b : Fin 32) (o : Fin 1) :
    counts P (ix2 b o) = BitVec.ofNat 32 (hits P b) := by
  pointwise [counts]
  exact IndicatorCount.fold_addi_setWidth_eq_card _ _

/-- A sum of words is the word of the sum. -/
theorem fold_words {ι : Type} (S : Finset ι) (f : ι → ℕ) :
    S.fold IntOp.addi 0#32 (fun k => BitVec.ofNat 32 (f k)) = BitVec.ofNat 32 (∑ k ∈ S, f k) := by
  classical
  induction S using Finset.induction_on with
  | empty => rfl
  | insert a S ha ih =>
    rw [Finset.fold_insert ha, Finset.sum_insert ha, ih, BitVec.ofNat_add]
    rfl

/-- All matched anchors, at least 1. -/
theorem total_at (P : IVec S32x8732 1) :
    total (F := Ideal) P ix0 = max (((∑ b, hits P b : ℕ) : ℝ) : EReal) 1 := by
  pointwise [total]
  simp only [counts_at]
  rw [fold_words, Fintype.sum_prod_type]
  simp only [Finset.univ_unique, Finset.sum_singleton]
  have hle : ∑ b, hits P b ≤ 279424 := by
    refine (Finset.sum_le_sum fun b _ => hits_le P b).trans ?_
    simp
  generalize (∑ b, hits P b) = n at hle
  show (((IntOp.maxsi (BitVec.ofNat 32 n) 1#32).toInt : ℝ) : EReal) = _
  have hn : (BitVec.ofNat 32 n).toInt = n := by
    have e : (BitVec.ofNat 32 n).toNat = n := by
      rw [BitVec.toNat_ofNat, Nat.mod_eq_of_lt (by omega)]
    rw [BitVec.toInt_eq_toNat_of_lt (by rw [e]; omega), e]
  have h1 : (1#32 : BitVec 32).toInt = 1 := by decide
  simp only [IntOp.maxsi, BitVec.slt, hn, h1]
  rcases Nat.lt_or_ge n 2 with h | h
  · interval_cases n <;> simp
  · have h' : (1 : ℤ) < n := by omega
    rw [if_pos (by simpa using h'), hn, max_eq_left]
    · simp
    · have : (1 : ℝ) ≤ n := by exact_mod_cast (by omega : 1 ≤ n)
      exact_mod_cast this

/-- The first result is the quotient. -/
theorem lossL_at (A0 : FVec Ideal S32x8732x4 .f32) (A2 : FVec Ideal S8732x4 .f32) (A3 : FVec Ideal S32x32x4 .f32) (A4 : IVec S32x32 32) :
    lossL A0 A2 A3 A4 (ix2 0 0)
      = Ideal.div (locSum A0 (enc A2 (mbox (iou A2 A3) A3)) (pos (cls (iou A2 A3) A4)) ix0) (total (F := Ideal) (pos (cls (iou A2 A3) A4)) ix0) := by
  unfold lossL
  generalize locSum A0 (enc A2 (mbox (iou A2 A3) A3)) (pos (cls (iou A2 A3) A4)) = x
  generalize total (F := Ideal) (pos (cls (iou A2 A3) A4)) = y
  pointwise

end Cert.RefTerm
end
-- ==== Proof.FirstResult.lean ====
/- The kernel's first result is the reference's, as extended reals, where every label is positive. -/
module

public import proofs.«01_k».proof.Proof.BlockRead
public import proofs.«01_k».proof.Proof.LocValue
public import proofs.«01_k».proof.Proof.RefPoint

@[expose] public section

set_option maxRecDepth 16384

noncomputable section

namespace Cert.KernelIdeal.Value

open Idealize.ShloMosaic Idealize.ShloMosaic.TcCoe Idealize.SL.Sem Cert.KernelIdeal Cert.KernelIdeal.Gen Cert.Match
open Cert.RefTerm (iou cls pos mbox enc locSum total lossL hits)

variable (m : (ℓ : Loc nD τ sig) → Buf (Elt Ideal) ℓ) (c : Dev nD)

/-- The overlap ratios, as the reference has them. -/
abbrev ious : FVec Ideal Cert.ReferenceIdeal.S32x32x8732 .f32 := iou (arg2 m c) (arg3 m c)

/-- The matched anchors, as the reference has them. -/
abbrev matched : IVec S32x8732 1 := pos (cls (ious m c) (arg4 m c))

theorem ratios_blk (b : Fin 32) (d : Fin 8732) :
    ratios (iblk m c 0 (pt b)) (iblk m c 1 (pt b)) d = fun k => ious m c (ix3 b k d) := by
  funext k
  unfold ious ratios
  rw [RefTerm.iou_at]
  simp only [blk0, blk1]

theorem mate_blk (b : Fin 32) (d : Fin 8732) (r : Fin 4) :
    mate (iblk m c 0 (pt b)) (iblk m c 1 (pt b)) d r = mbox (ious m c) (arg3 m c) (ix3 b d r) := by
  rw [RefTerm.mbox_at]
  unfold mate
  rw [ratios_blk, blk1]

theorem pos_blk (hA : ∀ b k, 0 < (arg4 m c (ix2 b k)).toInt) (b : Fin 32) (d : Fin 8732) :
    posv (iblk m c 0 (pt b)) (iblk m c 1 (pt b)) (ix2 0 d) = matched m c (ix2 b d) := by
  unfold matched
  rw [pos_at, RefTerm.pos_at _ _ hA, ratios_blk]

/-- The kept number of an image's matched anchors. -/
theorem tabA_count (hA : ∀ b k, 0 < (arg4 m c (ix2 b k)).toInt) (b : Fin 32) :
    tabA m c (ix2 b 0) = (((hits (matched m c) b : ℕ) : ℝ) : EReal) := by
  show auxAt m c b (ix2 0 0) = _
  unfold auxAt auxv
  rw [aux_count]
  simp only [pos_blk m c hA]
  have e : ∀ p : BitVec 1, ((((p.setWidth 32).toInt : ℝ)) : EReal) = if p = 1#1 then 1 else 0 := by
    intro p
    rcases BitVec.eq_zero_or_eq_one p with rfl | rfl <;> simp
  simp only [e]
  rw [Finset.sum_ite, Finset.sum_const_zero, add_zero, Finset.sum_const, nsmul_one]
  rfl

/-- The kept localisation loss of an image. -/
theorem tabA_loc (hA : ∀ b k, 0 < (arg4 m c (ix2 b k)).toInt) (b : Fin 32) :
    tabA m c (ix2 b 1) = ∑ d : Fin 8732, ∑ r : Fin 4, Scalar.select (matched m c (ix2 b d))
      (smooth (arg0 m c (ix3 b d r) - enc (arg2 m c) (mbox (ious m c) (arg3 m c)) (ix3 b d r))) 0 := by
  show auxAt m c b (ix2 0 1) = _
  unfold auxAt auxv
  rw [aux_loc, locv_at, Finset.sum_comm, Fin.sum_univ_four]
  unfold coordSum
  simp only [pos_blk m c hA, mate_blk, blk0, blk3, RefTerm.enc_0, RefTerm.enc_1, RefTerm.enc_2, RefTerm.enc_3]

/-- The first result. -/
theorem outL_eq (hA : ∀ b k, 0 < (arg4 m c (ix2 b k)).toInt) :
    outL (tabA m c) = lossL (arg0 m c) (arg2 m c) (arg3 m c) (arg4 m c) := by
  funext j
  obtain rfl : j = ix2 0 0 := by
    funext a
    match a with
    | ⟨0, _⟩ => exact Subsingleton.elim (α := Fin 1) _ _
    | ⟨1, _⟩ => exact Subsingleton.elim (α := Fin 1) _ _
  rw [outL_at, RefTerm.lossL_at, RefTerm.locSum_at, RefTerm.total_at]
  simp only [tabA_count m c hA, tabA_loc m c hA]
  have e : ∑ b, (((hits (matched m c) b : ℕ) : ℝ) : EReal) = (((∑ b, hits (matched m c) b : ℕ) : ℝ) : EReal) := by
    rw [coe_sum, Nat.cast_sum]
  rw [e]

end Cert.KernelIdeal.Value
end
-- ==== Proof.PreFacts.lean ====
/- The shape relations that the precondition on labels and logits states. -/
module

public import proofs.«01_k».proof.Pre_labels_and_logits

@[expose] public section

namespace Cert.Pre_labels_and_logits.Witness

open Idealize.ShloMosaic

/-- The shape relations hold. -/
theorem facts : Cert.Pre_labels_and_logits.Facts := by
  constructor <;> decide

end Cert.Pre_labels_and_logits.Witness
end
-- ==== Proof.PostFacts.lean ====
/- The shape relations that the postcondition on the second result states. -/
module

public import proofs.«01_k».proof.Post_loss_c_close

@[expose] public section

namespace Cert.Post_loss_c_close.Witness

open Idealize.ShloMosaic

/-- The shape relations hold. -/
theorem facts : Cert.Post_loss_c_close.Facts := by
  constructor <;> decide

end Cert.Post_loss_c_close.Witness
end
-- ==== Proof.PostTerm.lean ====
/- The postcondition on the second result as a function of the arguments and the result, stage by stage. -/
module

public import proofs.«01_k».proof.Proof.PostFacts
public import proofs.«01_k».proof.Proof.RefTerm

@[expose] public section

set_option maxRecDepth 16384

noncomputable section

namespace Cert.PostTerm

open Idealize.ShloMosaic Idealize.ShloMosaic.TcCoe Cert.Post_loss_c_close Cert.Post_loss_c_close.Facts

attribute [local instance] Cert.Post_loss_c_close.Witness.facts

variable {F : FTy → Type} [FloatOps F]

/-- The largest logit of every anchor, -/
def peak (A1 : FVec F S32x8732x81 .f32) : FVec F S32x8732 .f32 :=
  Host.reduce FloatOps.maximumf A1 (constant (F := F) S_ .f32 0xFF800000#32) reducesTo_S32x8732x81_S32x8732_d2 h_S_

/-- a value of every anchor, at every class, -/
def spread (x : FVec F S32x8732x1 .f32) : FVec F S32x8732x81 .f32 :=
  broadcastInDim S32x8732x81 ![0, 1, 2] bcast_S32x8732x1_S32x8732x81_0_1_2 x
def column (x : FVec F S32x8732 .f32) : FVec F S32x8732x1 .f32 :=
  broadcastInDim S32x8732x1 ![0, 1] bcast_S32x8732_S32x8732x1_0_1 x

/-- the logits less the largest, -/
def shifted (A1 : FVec F S32x8732x81 .f32) (m : FVec F S32x8732 .f32) : FVec F S32x8732x81 .f32 :=
  subf A1 (spread (column (maximumf (broadcastInDim S32x8732 ![] bcast_S_S32x8732 (constant (F := F) S_ .f32 0xFF800000#32)) m)))

/-- the sums of the exponentials, -/
def mass (v : FVec F S32x8732x81 .f32) : FVec F S32x8732 .f32 :=
  Host.reduceAdd (Host.exp v) (constant (F := F) S_ .f32 0x00000000#32) reducesTo_S32x8732x81_S32x8732_d2 h_S_

/-- and the log-softmax of the logits. -/
def logProb (v : FVec F S32x8732x81 .f32) (t : FVec F S32x8732 .f32) : FVec F S32x8732x81 .f32 :=
  subf v (spread (Host.log (column t)))

def logSoftmax (A1 : FVec F S32x8732x81 .f32) : FVec F S32x8732x81 .f32 :=
  logProb (shifted A1 (peak A1)) (mass (shifted A1 (peak A1)))

/-- The class as an index of a gather, -/
def index (C : IVec S32x8732x1 32) : IVec S32x8732x1x1 32 :=
  shapeCast S32x8732x1x1
    (select (cmpi .slt C (broadcastInDim S32x8732x1 ![] bcast_S_S32x8732x1 (constantI S_ 32 0#32)))
      (addi C (broadcastInDim S32x8732x1 ![] bcast_S_S32x8732x1 (constantI S_ 32 81#32))) C)
    shapeCasts_S32x8732x1_S32x8732x1x1

/-- whether it names a class, -/
def inside (v : IVec S32x8732x1x1 32) : IVec S32x8732x1x1 1 :=
  andi (cmpi .sge v (broadcastInDim S32x8732x1x1 ![] bcast_S_S32x8732x1x1 (constantI S_ 32 0#32)))
    (cmpi .sle v (broadcastInDim S32x8732x1x1 ![0, 1, 2, 3] bcast_S1x1x1x1_S32x8732x1x1_0_1_2_3
      (broadcastInDim S1x1x1x1 ![3] bcast_S1_S1x1x1x1_3 (constantI S1 32 80#32))))
def named (w : IVec S32x8732x1x1 1) : IVec S32x8732x1 1 :=
  Host.reduce IntOp.andi w (constantI S_ 1 1#1) reducesTo_S32x8732x1x1_S32x8732x1_d3 h_S_

/-- and the entry it names. -/
def taken (L : FVec F S32x8732x81 .f32) (v : IVec S32x8732x1x1 32) : FVec F S32x8732x1 .f32 :=
  Host.gather gather_S32x8732x81_S32x8732x1x1_S32x8732x1_n_2_01_01_2_3_111 L v
def entry (L : FVec F S32x8732x81 .f32) (C : IVec S32x8732x1 32) : FVec F S32x8732x1 .f32 :=
  select (named (inside (index C))) (taken L (index C))
    (broadcastInDim S32x8732x1 ![] bcast_S_S32x8732x1 (constant (F := F) S_ .f32 0x7FC00000#32))

/-- The cross entropy of every anchor, -/
def entropy (L : FVec F S32x8732x81 .f32) (C : IVec S32x8732x1 32) : FVec F S32x8732 .f32 :=
  Host.negf (shapeCast S32x8732 (entry L C) shapeCasts_S32x8732x1_S32x8732)

/-- zero where the anchor is matched. -/
def negative (P : IVec S32x8732 1) (ce : FVec F S32x8732 .f32) : FVec F S32x8732 .f32 :=
  select P (broadcastInDim S32x8732 ![] bcast_S_S32x8732 (id (constant (F := F) S_ .f32 0x00000000#32))) ce

/-- The anchors in the order of a key, -/
def sorted (x : FVec F S32x8732 .f32) : IVec S32x8732 32 :=
  (Host.sort2 S32x8732 1 comparator_f32_i32_d1 x (iotaInDim S32x8732 32 1)).2

/-- and their ranks. -/
def ranks (x : IVec S32x8732 32) : IVec S32x8732 32 :=
  (Host.sort2 S32x8732 1 comparator_i32_i32_d1 x (iotaInDim S32x8732 32 1)).2

/-- The kept anchors: the matched ones, and three times as many of the first ranks. -/
def kept (P : IVec S32x8732 1) (K : IVec S32x8732 32) (N : IVec S32x1 32) : IVec S32x8732 1 :=
  ori P (cmpi .slt K (broadcastInDim S32x8732 ![0, 1] bcast_S32x1_S32x8732_0_1
    (minsi (muli N (broadcastInDim S32x1 ![] bcast_S_S32x1 (constantI S_ 32 3#32)))
      (broadcastInDim S32x1 ![] bcast_S_S32x1 (constantI S_ 32 8732#32)))))

/-- The confidence loss before its normalisation, -/
def confSum (ce : FVec F S32x8732 .f32) (k : IVec S32x8732 1) : FVec F S_ .f32 :=
  Host.reduceAdd (mulf ce (uitofp .f32 k)) (constant (F := F) S_ .f32 0x00000000#32) reducesTo_S32x8732_S_d0_1 h_S_

/-- the largest unmatched cross entropies, summed over the images, -/
def largest (cn : FVec F S32x8732 .f32) : FVec F S32 .f32 :=
  Host.reduce FloatOps.maximumf cn (constant (F := F) S_ .f32 0xFF800000#32) reducesTo_S32x8732_S32_d1 h_S_
def largestSum (x : FVec F S32 .f32) : FVec F S_ .f32 :=
  Host.reduceAdd x (constant (F := F) S_ .f32 0x00000000#32) reducesTo_S32_S_d0 h_S_

/-- and the comparison. -/
def close (A6 : FVec F S1x1 .f32) (X Y N : FVec F S_ .f32) : IVec S1x1 1 :=
  cmpf .ole (Host.absf (subf A6 (broadcastInDim S1x1 ![] bcast_S_S1x1 (Host.divf X N))))
    (broadcastInDim S1x1 ![] bcast_S_S1x1 (Host.divf (mulf (constant (F := F) S_ .f32 0x36887000#32) Y) N))

/-- The postcondition as a function of the matched anchors, the cross entropies and the second result. -/
def post (A6 : FVec F S1x1 .f32) (P : IVec S32x8732 1) (ce : FVec F S32x8732 .f32) : IVec S1x1 1 :=
  close A6
    (confSum ce (kept P (ranks (sorted (Host.negf (negative P ce)))) (RefTerm.counts P)))
    (largestSum (largest (negative P ce))) (RefTerm.total P)

/-- The postcondition is made of these stages. -/
theorem fn_eq (A0 : FVec F S32x8732x4 .f32) (A1 : FVec F S32x8732x81 .f32) (A2 : FVec F S8732x4 .f32) (A3 : FVec F S32x32x4 .f32)
    (A4 : IVec S32x32 32) (A5 A6 : FVec F S1x1 .f32) :
    fn A0 A1 A2 A3 A4 A5 A6
      = post A6 (RefTerm.pos (RefTerm.cls (RefTerm.iou A2 A3) A4))
          (entropy (logSoftmax A1)
            (broadcastInDim S32x8732x1 ![0, 1] bcast_S32x8732_S32x8732x1_0_1 (RefTerm.cls (RefTerm.iou A2 A3) A4))) := by
  rfl

end Cert.PostTerm
end
-- ==== Proof.Rank.lean ====
/- The rank of every entry of a row, as the arg-sort of its arg-sort. -/
module

public import Idealize.ShloMosaic.Lib.Pointwise
public import Idealize.ShloMosaic.Lib.SortFacts

@[expose] public section

noncomputable section

namespace Cert.Rank

open Idealize.ShloMosaic

/-- A sort of two tables along their rows: the second one's entries. -/
theorem sort_row {m n : ℕ} {α β : Type} (cmp : α × β → α × β → BitVec 1) (x : (⟨2, ![m, n]⟩ : Shape).Idx → α)
    (y : (⟨2, ![m, n]⟩ : Shape).Idx → β) (b : Fin m) (r : Fin n) :
    (Host.sort2 ⟨2, ![m, n]⟩ 1 cmp x y).2 (ix2 b r)
      = y (ix2 b (sortedFrom (fun k k' => cmp (x (ix2 b k), y (ix2 b k)) (x (ix2 b k'), y (ix2 b k')) == 1#1) r)) := by
  have e : ∀ k : Fin n, Shape.Idx.along (s := ⟨2, ![m, n]⟩) (ix2 b r) ⟨1, Nat.one_lt_two⟩ k = ix2 b k := by
    intro k
    funext q
    match q with
    | ⟨0, _⟩ => rfl
    | ⟨1, _⟩ => rfl
  have e' : ∀ k k' : Fin n,
      cmp (x (Shape.Idx.along (s := ⟨2, ![m, n]⟩) (ix2 b r) ⟨1, Nat.one_lt_two⟩ k), y (Shape.Idx.along (s := ⟨2, ![m, n]⟩) (ix2 b r) ⟨1, Nat.one_lt_two⟩ k))
        (x (Shape.Idx.along (s := ⟨2, ![m, n]⟩) (ix2 b r) ⟨1, Nat.one_lt_two⟩ k'), y (Shape.Idx.along (s := ⟨2, ![m, n]⟩) (ix2 b r) ⟨1, Nat.one_lt_two⟩ k'))
      = cmp (x (ix2 b k), y (ix2 b k)) (x (ix2 b k'), y (ix2 b k')) := by
    intro k k'; rw [e, e]
  unfold Host.sort2
  rw [dif_pos (show (1 : ℕ) < (⟨2, ![m, n]⟩ : Shape).rank from Nat.one_lt_two)]
  refine (congrArg y (e _)).trans ?_
  refine congrArg (fun f : Fin n → Fin n → Bool => y (ix2 b (sortedFrom f r))) ?_
  funext k k'
  exact congrArg (fun w => w == 1#1) (e' k k')

variable {n : ℕ} (x : Fin n → EReal)

/-- The order in which a stable sort takes the entries, -/
def order : Fin n → Fin n := sortedFrom fun k k' => decide (x k < x k')

/-- and the place of every entry in it. -/
def place : Fin n → Fin n := sortedFrom fun k k' => decide (order x k < order x k')

theorem order_bij : Function.Bijective (order x) := ⟨sortedFrom_injective _, sortedFrom_surjective _⟩
theorem place_bij : Function.Bijective (place x) := ⟨sortedFrom_injective _, sortedFrom_surjective _⟩

theorem order_le (i j : Fin n) (h : i < j) : x (order x i) ≤ x (order x j) := by
  have := sortedFrom_noInversion (fun k k' => decide (x k < x k')) (fun k k' => decide (x k < x k'))
    (fun a b h => by simp only [decide_eq_true_eq, decide_eq_false_iff_not] at h ⊢; exact not_lt.mpr (le_of_lt h)) (fun _ _ h => h)
    (fun a b c h₁ h₂ => by simp only [decide_eq_false_iff_not, not_lt] at h₁ h₂ ⊢; exact h₂.trans h₁) i j h
  simp only [decide_eq_false_iff_not, not_lt] at this
  exact this

theorem order_place (i : Fin n) : order x (place x i) = i := by
  have hm : StrictMono fun i => order x (place x i) := by
    intro i j h
    have := sortedFrom_noInversion (fun k k' => decide (order x k < order x k')) (fun k k' => decide (order x k < order x k'))
      (fun a b h => by simp only [decide_eq_true_eq, decide_eq_false_iff_not] at h ⊢; exact not_lt.mpr (le_of_lt h)) (fun _ _ h => h)
      (fun a b c h₁ h₂ => by simp only [decide_eq_false_iff_not, not_lt] at h₁ h₂ ⊢; exact h₂.trans h₁) i j h
    simp only [decide_eq_false_iff_not, not_lt] at this
    refine lt_of_le_of_ne this fun e => ?_
    exact absurd ((place_bij x).1 ((order_bij x).1 e)) (ne_of_lt h)
  exact le_antisymm hm.apply_le hm.le_apply

/-- The entries whose place is below `k`. -/
def lead (k : ℕ) : Finset (Fin n) := Finset.univ.filter fun d => (place x d).val < k

theorem lead_card (k : ℕ) (h : k ≤ n) : (lead x k).card = k := by
  have e : (lead x k).card = (Finset.univ.filter fun r : Fin n => r.val < k).card :=
    Finset.card_bijective (place x) (place_bij x) (fun d => by simp [lead])
  rw [e]
  have : (Finset.univ.filter fun r : Fin n => r.val < k) = Finset.univ.map (Fin.castLEEmb h) := by
    ext r
    simp only [Finset.mem_filter, Finset.mem_univ, true_and, Finset.mem_map, Fin.castLEEmb_apply]
    exact ⟨fun hr => ⟨⟨r.val, hr⟩, rfl⟩, fun ⟨q, hq⟩ => hq ▸ q.isLt⟩
  rw [this, Finset.card_map, Finset.card_univ, Fintype.card_fin]

/-- None of them exceeds an entry at a later place. -/
theorem lead_le (k : ℕ) (i : Fin n) (hi : i ∈ lead x k) (j : Fin n) (hj : j ∉ lead x k) : x i ≤ x j := by
  simp only [lead, Finset.mem_filter, Finset.mem_univ, true_and, not_lt] at hi hj
  have := order_le x (place x i) (place x j) (Fin.lt_def.mpr (by omega))
  rwa [order_place, order_place] at this

end Cert.Rank
end
-- ==== Proof.Entropy.lean ====
/- The cross entropy of one anchor, as the kernel adds it up and as the log-softmax gives it. -/
module

public import proofs.«01_k».proof.Proof.Match

@[expose] public section

noncomputable section

namespace Cert.Entropy

open Idealize.ShloMosaic Cert.Match

/-- The logarithm of the sum of the exponentials of the logits, less the logit of the class. -/
def entropy (r : Fin 81 → ℝ) (c : Fin 81) : ℝ := Real.log (∑ q, Real.exp (r q)) - r c

theorem mass_pos (r : Fin 81 → ℝ) : 0 < ∑ q, Real.exp (r q) :=
  Finset.sum_pos (fun q _ => Real.exp_pos _) Finset.univ_nonempty

theorem entropy_nonneg (r : Fin 81 → ℝ) (c : Fin 81) : 0 ≤ entropy r c := by
  have h : Real.exp (r c) ≤ ∑ q, Real.exp (r q) :=
    Finset.single_le_sum (f := fun q => Real.exp (r q)) (fun q _ => le_of_lt (Real.exp_pos _)) (Finset.mem_univ c)
  have := Real.log_le_log (Real.exp_pos _) h
  rw [Real.log_exp] at this
  unfold entropy
  linarith

/-- A fold by maximum over finitely many reals is the largest of them. -/
theorem fold_real {ι : Type} [Fintype ι] [Nonempty ι] (r : ι → ℝ) :
    ∃ M : ℝ, Finset.univ.fold max (Ideal.ofBits .f32 0xFF800000#32) (fun i => (r i : EReal)) = (M : EReal)
      ∧ (∀ i, r i ≤ M) ∧ ∃ i, r i = M := by
  have e : Finset.univ.fold max (Ideal.ofBits .f32 0xFF800000#32) (fun i => (r i : EReal)) = Finset.univ.sup fun i => (r i : EReal) := by
    rw [negInf]; rfl
  obtain ⟨i, -, h⟩ := Finset.exists_mem_eq_sup (s := (Finset.univ : Finset ι)) Finset.univ_nonempty fun i => (r i : EReal)
  refine ⟨r i, e.trans h, fun j => ?_, i, rfl⟩
  have := Finset.le_sup (f := fun i => (r i : EReal)) (Finset.mem_univ j)
  rw [h] at this
  exact EReal.coe_le_coe_iff.mp this

/-- The logarithm of a sum of exponentials of reals. -/
theorem log_mass (r : Fin 81 → ℝ) :
    Ideal.log (∑ q : Fin 81, Ideal.exp (r q : EReal)) = ((Real.log (∑ q, Real.exp (r q)) : ℝ) : EReal) := by
  have e : ∑ q : Fin 81, Ideal.exp (r q : EReal) = ((∑ q, Real.exp (r q) : ℝ) : EReal) := coe_sum _ _
  rw [e, Ideal.log_coe, if_neg (not_le.mpr (mass_pos r))]

/-- A small class as a word, -/
theorem word_of_class (c : Fin 81) : Ideal.fptosi 32 ((c.val : ℝ) : EReal) = BitVec.ofNat 32 c.val := by
  have h : ⌊(c.val : ℝ)⌋ = (c.val : ℤ) := Int.floor_natCast _
  have hc := c.isLt
  unfold Ideal.fptosi
  rw [Ideal.toIntClamped_coe, if_pos (Nat.cast_nonneg _), h]
  refine (congrArg (BitVec.ofInt 32) (?_ : _ = (c.val : ℤ))).trans (BitVec.ofInt_natCast _ _)
  norm_num
  omega

/-- compared with another, -/
theorem word_eq (q c : Fin 81) : IntOp.cmpi .eq (BitVec.ofNat 32 q.val) (BitVec.ofNat 32 c.val) = BitVec.ofBool (decide (q = c)) := by
  by_cases h : q = c
  · subst h; simp [IntOp.cmpi]
  · have hn : BitVec.ofNat 32 q.val ≠ BitVec.ofNat 32 c.val := by
      intro e
      have := congrArg BitVec.toNat e
      simp only [BitVec.toNat_ofNat] at this
      have := q.isLt; have := c.isLt
      exact h (Fin.ext (by omega))
    have hb : (BitVec.ofNat 32 q.val == BitVec.ofNat 32 c.val) = false := beq_eq_false_iff_ne.mpr hn
    simp [IntOp.cmpi, h, hb]

/-- The kernel's form: the class's logit is picked by comparing every class's number with the class. -/
theorem kernel_form (r : Fin 81 → ℝ) (c : Fin 81) :
    Ideal.log (∑ q : Fin 81, Ideal.exp (r q : EReal))
        - ∑ q : Fin 81, Scalar.select (IntOp.cmpi .eq (BitVec.ofNat 32 q.val) (Ideal.fptosi 32 ((c.val : ℝ) : EReal))) (r q : EReal) 0
      = (entropy r c : EReal) := by
  have e : ∀ q : Fin 81, Scalar.select (IntOp.cmpi .eq (BitVec.ofNat 32 q.val) (Ideal.fptosi 32 ((c.val : ℝ) : EReal))) (r q : EReal) 0
      = if q = c then (r q : EReal) else 0 := by
    intro q
    rw [word_of_class, word_eq]
    by_cases h : q = c <;> simp [h, Scalar.select]
  rw [log_mass, Finset.sum_congr rfl fun q _ => e q, Finset.sum_ite_eq' Finset.univ c, if_pos (Finset.mem_univ _)]
  rfl

/-- The log-softmax's form: the largest logit is subtracted first. -/
theorem softmax_form (r : Fin 81 → ℝ) (c : Fin 81) (m : EReal)
    (hm : m = max (Ideal.ofBits .f32 0xFF800000#32) (Finset.univ.fold max (Ideal.ofBits .f32 0xFF800000#32) (fun q : Fin 81 => (r q : EReal)))) :
    -(((r c : EReal) - m) - Ideal.log (∑ q : Fin 81, Ideal.exp ((r q : EReal) - m))) = (entropy r c : EReal) := by
  obtain ⟨M, hM, -, -⟩ := fold_real r
  have e : m = (M : EReal) := by rw [hm, hM, negInf, max_eq_right bot_le]
  rw [e]
  have e1 : ∀ q, (r q : EReal) - (M : EReal) = ((r q - M : ℝ) : EReal) := fun q => rfl
  simp only [e1]
  rw [log_mass]
  have e2 : ∑ q, Real.exp (r q - M) = (∑ q, Real.exp (r q)) * Real.exp (-M) := by
    rw [Finset.sum_mul]
    exact Finset.sum_congr rfl fun q _ => by rw [sub_eq_add_neg, Real.exp_add]
  rw [e2, Real.log_mul (ne_of_gt (mass_pos r)) (ne_of_gt (Real.exp_pos _)), Real.log_exp]
  rw [← EReal.coe_sub, ← EReal.coe_neg]
  congr 1
  unfold entropy
  ring

end Cert.Entropy
end
-- ==== Proof.PostPoint.lean ====
/- The stages of the postcondition on the second result, read at an index. -/
module

public import proofs.«01_k».proof.Proof.PostTerm
public import proofs.«01_k».proof.Proof.RefPoint
public import proofs.«01_k».proof.Proof.Rank
public import proofs.«01_k».proof.Proof.Entropy

@[expose] public section

set_option maxRecDepth 16384

noncomputable section

namespace Cert.PostTerm

open Idealize.ShloMosaic Idealize.ShloMosaic.TcCoe Cert.Post_loss_c_close Cert.Post_loss_c_close.Facts Cert.Match

attribute [local instance] Cert.Post_loss_c_close.Witness.facts

/-! ## The log-softmax -/

theorem peak_at (A1 : FVec Ideal S32x8732x81 .f32) (b : Fin 32) (d : Fin 8732) :
    peak A1 (ix2 b d) = Finset.univ.fold max (Ideal.ofBits .f32 0xFF800000#32) (fun q : Fin 81 => A1 (ix3 b d q)) := by
  pointwise [peak]

theorem shifted_at (A1 : FVec Ideal S32x8732x81 .f32) (m : FVec Ideal S32x8732 .f32) (b : Fin 32) (d : Fin 8732) (q : Fin 81) :
    shifted A1 m (ix3 b d q) = A1 (ix3 b d q) - max (Ideal.ofBits .f32 0xFF800000#32) (m (ix2 b d)) := by
  pointwise [shifted, spread, column]

theorem mass_at (v : FVec Ideal S32x8732x81 .f32) (b : Fin 32) (d : Fin 8732) :
    mass v (ix2 b d) = ∑ q : Fin 81, Ideal.exp (v (ix3 b d q)) := by
  pointwise [mass]

theorem logProb_at (v : FVec Ideal S32x8732x81 .f32) (t : FVec Ideal S32x8732 .f32) (b : Fin 32) (d : Fin 8732) (q : Fin 81) :
    logProb v t (ix3 b d q) = v (ix3 b d q) - Ideal.log (t (ix2 b d)) := by
  pointwise [logProb, spread, column]

/-- The log-softmax of finite logits is the negated cross entropy. -/
theorem logSoftmax_at (A1 : FVec Ideal S32x8732x81 .f32) (b : Fin 32) (d : Fin 8732) (r : Fin 81 → ℝ)
    (hr : ∀ q, A1 (ix3 b d q) = (r q : EReal)) (c : Fin 81) :
    -(logSoftmax A1 (ix3 b d c)) = (Entropy.entropy r c : EReal) := by
  unfold logSoftmax
  rw [logProb_at, mass_at]
  simp only [shifted_at, hr]
  refine Entropy.softmax_form r c _ ?_
  rw [peak_at]
  simp only [hr]

/-! ## The entry of the class -/

theorem index_at (C : IVec S32x8732x1 32) (b : Fin 32) (d : Fin 8732) (q : Fin 81) (h : C (ix3 b d 0) = BitVec.ofNat 32 q.val) :
    index C (ix4 b d 0 0) = BitVec.ofNat 32 q.val := by
  pointwise [index]
  rw [h]
  clear h
  revert q
  decide

theorem inside_at (v : IVec S32x8732x1x1 32) (b : Fin 32) (d : Fin 8732) (q : Fin 81) (h : v (ix4 b d 0 0) = BitVec.ofNat 32 q.val) :
    inside v (ix4 b d 0 0) = 1#1 := by
  pointwise [inside]
  rw [h]
  clear h
  revert q
  decide

theorem named_at (w : IVec S32x8732x1x1 1) (b : Fin 32) (d : Fin 8732) (h : w (ix4 b d 0 0) = 1#1) :
    named w (ix3 b d 0) = 1#1 := by
  pointwise [named]
  simp [h]
  decide

/-- The clamped start index of the gather is the class itself. -/
theorem clamp_class (q : Fin 81) : min (BitVec.ofNat 32 q.val).toInt.toNat 80 = q.val := by
  revert q; decide

/-- The gather picks the entry of the class. -/
theorem taken_at (x : FVec Ideal S32x8732x81 .f32) (a : IVec S32x8732x1x1 32) (b : Fin 32) (d : Fin 8732) (k : Fin 81)
    (h : a (ix4 b d 0 0) = BitVec.ofNat 32 k.val) : taken x a (ix3 b d 0) = x (ix3 b d k) := by
  unfold taken Host.gather
  congr 1
  funext q
  refine Fin.ext ?_
  generalize hD : gather_S32x8732x81_S32x8732x1x1_S32x8732x1_n_2_01_01_2_3_111 = D
  show D.start (ix3 b d 0) a q + D.batchCoord (ix3 b d 0) q + D.offCoord (ix3 b d 0) q = _
  match q with
  | ⟨0, _⟩ =>
    rw [GatherDims.start_batching _ _ _ _ (by subst hD; exact (by decide : (0 : Fin 3) ∈ ([0, 1] : List (Fin 3)))),
      GatherDims.offCoord_eq_zero _ _ _ (fun h => ((GatherDims.mem_sKept _ _).mp h).2 (by subst hD; exact (by decide : (0 : Fin 3) ∈ ([0, 1] : List (Fin 3)))))]
    simp only [Nat.zero_add, Nat.add_zero]
    unfold GatherDims.batchCoord
    rw [dif_pos (by subst hD; exact (by decide : (0 : Fin 3) ∈ ([0, 1] : List (Fin 3))))]
    subst hD
    rfl
  | ⟨1, _⟩ =>
    rw [GatherDims.start_batching _ _ _ _ (by subst hD; exact (by decide : (1 : Fin 3) ∈ ([0, 1] : List (Fin 3)))),
      GatherDims.offCoord_eq_zero _ _ _ (fun h => ((GatherDims.mem_sKept _ _).mp h).2 (by subst hD; exact (by decide : (1 : Fin 3) ∈ ([0, 1] : List (Fin 3)))))]
    simp only [Nat.zero_add, Nat.add_zero]
    unfold GatherDims.batchCoord
    rw [dif_pos (by subst hD; exact (by decide : (1 : Fin 3) ∈ ([0, 1] : List (Fin 3))))]
    subst hD
    rfl
  | ⟨2, _⟩ =>
    rw [GatherDims.batchCoord_eq_zero _ _ _ (by subst hD; exact (by decide : (2 : Fin 3) ∉ ([0, 1] : List (Fin 3)))),
      GatherDims.offCoord_eq_zero _ _ _ (fun h => ((GatherDims.mem_sKept _ _).mp h).1 (by subst hD; exact List.mem_singleton.mpr rfl))]
    simp only [Nat.add_zero]
    unfold GatherDims.start
    have hmem : (⟨2, by decide⟩ : Fin S32x8732x81.rank) ∈ D.startIndexMap := by subst hD; exact List.mem_singleton.mpr rfl
    rw [dif_pos hmem]
    have hsi : D.siIdx (ix3 b d 0) ⟨List.idxOf (⟨2, by decide⟩ : Fin S32x8732x81.rank) D.startIndexMap, List.idxOf_lt_length_iff.2 hmem⟩ = ix4 b d 0 0 := by
      subst hD
      funext c
      match c with
      | ⟨0, _⟩ => rfl
      | ⟨1, _⟩ => rfl
      | ⟨2, _⟩ => rfl
      | ⟨3, _⟩ => rfl
    rw [hsi, h]
    subst hD
    exact clamp_class k

theorem entry_read (w : IVec S32x8732x1 1) (g : FVec Ideal S32x8732x1 .f32) (b : Fin 32) (d : Fin 8732) (h : w (ix3 b d 0) = 1#1) :
    select w g (broadcastInDim S32x8732x1 ![] bcast_S_S32x8732x1 (constant (F := Ideal) S_ .f32 0x7FC00000#32)) (ix3 b d 0) = g (ix3 b d 0) := by
  show Scalar.select (w (ix3 b d 0)) (g (ix3 b d 0)) _ = _
  rw [h]
  rfl

theorem entry_at (L : FVec Ideal S32x8732x81 .f32) (C : IVec S32x8732x1 32) (b : Fin 32) (d : Fin 8732) (q : Fin 81)
    (h : C (ix3 b d 0) = BitVec.ofNat 32 q.val) : entry L C (ix3 b d 0) = L (ix3 b d q) := by
  have hi := index_at C b d q h
  exact (entry_read _ _ b d (named_at _ b d (inside_at _ b d q hi))).trans (taken_at L _ b d q hi)

theorem neg_read (x : FVec Ideal S32x8732x1 .f32) (b : Fin 32) (d : Fin 8732) :
    Host.negf (shapeCast S32x8732 x shapeCasts_S32x8732x1_S32x8732) (ix2 b d) = -(x (ix3 b d 0)) := by
  pointwise []

theorem class_read (C : IVec S32x8732 32) (b : Fin 32) (d : Fin 8732) :
    broadcastInDim S32x8732x1 ![0, 1] bcast_S32x8732_S32x8732x1_0_1 C (ix3 b d 0) = C (ix2 b d) := by
  pointwise []

/-- The cross entropy of an anchor with finite logits. -/
theorem entropy_at (A1 : FVec Ideal S32x8732x81 .f32) (C : IVec S32x8732 32) (b : Fin 32) (d : Fin 8732) (r : Fin 81 → ℝ)
    (hr : ∀ q, A1 (ix3 b d q) = (r q : EReal)) (c : Fin 81) (hc : C (ix2 b d) = BitVec.ofNat 32 c.val) :
    entropy (logSoftmax A1) (broadcastInDim S32x8732x1 ![0, 1] bcast_S32x8732_S32x8732x1_0_1 C) (ix2 b d)
      = (Entropy.entropy r c : EReal) := by
  unfold entropy
  rw [neg_read, entry_at _ _ b d c ((class_read C b d).trans hc), logSoftmax_at A1 b d r hr c]

/-! ## The ranks -/

/-- The comparison of two keys. -/
theorem key_lt (l r : EReal × BitVec 32) : comparator_f32_i32_d1 (F := Ideal) l r = BitVec.ofBool (decide (l.1 < r.1)) := by
  have hz : ∀ x : EReal, Scalar.select (Ideal.cmp .oeq x (Ideal.ofBits .f32 0x00000000#32)) (Ideal.ofBits .f32 0x00000000#32) x = x := by
    intro x
    rw [Ideal.ofBits_zero_f32]
    by_cases h : x = 0
    · simp [Ideal.cmp, h, Scalar.select]
    · simp [Ideal.cmp, h, Scalar.select]
  have hn : ∀ x y z : EReal, Scalar.select (Ideal.cmp .une x x) y z = z := by
    intro x y z
    simp [Ideal.cmp, Scalar.select]
  show Ideal.cmp .olt
      (Scalar.select (Ideal.cmp .une l.1 l.1) _ (Scalar.select (Ideal.cmp .oeq l.1 (Ideal.ofBits .f32 0x00000000#32)) (Ideal.ofBits .f32 0x00000000#32) l.1))
      (Scalar.select (Ideal.cmp .une r.1 r.1) _ (Scalar.select (Ideal.cmp .oeq r.1 (Ideal.ofBits .f32 0x00000000#32)) (Ideal.ofBits .f32 0x00000000#32) r.1)) = _
  rw [hn, hn, hz, hz]
  rfl

theorem bit_eq (p : Prop) [Decidable p] : (BitVec.ofBool (decide p) == 1#1) = decide p := by
  by_cases h : p <;> simp [h]

/-- The first sort lists the entries by their keys. -/
theorem sorted_at (x : FVec Ideal S32x8732 .f32) (b : Fin 32) (r : Fin 8732) :
    sorted x (ix2 b r) = BitVec.ofNat 32 (Rank.order (fun d => x (ix2 b d)) r).val := by
  unfold sorted
  rw [Rank.sort_row (m := 32) (n := 8732)]
  simp only [key_lt, bit_eq]
  rfl

theorem word_lt (p q : Fin 8732) : IntOp.cmpi .slt (BitVec.ofNat 32 p.val) (BitVec.ofNat 32 q.val) = BitVec.ofBool (decide (p < q)) := by
  have hi : ∀ p : Fin 8732, (BitVec.ofNat 32 p.val).toInt = p.val := by
    intro p
    have := p.isLt
    have e : (BitVec.ofNat 32 p.val).toNat = p.val := by
      rw [BitVec.toNat_ofNat, Nat.mod_eq_of_lt (by omega)]
    rw [BitVec.toInt_eq_toNat_of_lt (by rw [e]; omega), e]
  simp only [IntOp.cmpi, BitVec.slt, hi, Nat.cast_lt, Fin.lt_def]

/-- The second sort gives every entry's place. -/
theorem ranks_at (x : FVec Ideal S32x8732 .f32) (b : Fin 32) (d : Fin 8732) :
    ranks (sorted x) (ix2 b d) = BitVec.ofNat 32 (Rank.place (fun d => x (ix2 b d)) d).val := by
  unfold ranks
  rw [Rank.sort_row (m := 32) (n := 8732)]
  have e : (fun k k' : Fin 8732 =>
      comparator_i32_i32_d1 (sorted x (ix2 b k), iotaInDim S32x8732 32 1 (ix2 b k)) (sorted x (ix2 b k'), iotaInDim S32x8732 32 1 (ix2 b k')) == 1#1)
      = fun k k' => decide (Rank.order (fun d => x (ix2 b d)) k < Rank.order (fun d => x (ix2 b d)) k') := by
    funext k k'
    show (IntOp.cmpi .slt (sorted x (ix2 b k)) (sorted x (ix2 b k')) == 1#1) = _
    rw [sorted_at, sorted_at, word_lt, bit_eq]
  rw [e]
  rfl

/-! ## The sums -/

theorem negative_at (P : IVec S32x8732 1) (ce : FVec Ideal S32x8732 .f32) (b : Fin 32) (d : Fin 8732) :
    negative P ce (ix2 b d) = Scalar.select (P (ix2 b d)) 0 (ce (ix2 b d)) := by
  pointwise [negative]
  exact congrArg (fun z => Scalar.select (P (ix2 b d)) z (ce (ix2 b d))) RefTerm.zero_const

theorem kept_at (P : IVec S32x8732 1) (K : IVec S32x8732 32) (N : IVec S32x1 32) (b : Fin 32) (d : Fin 8732) :
    kept P K N (ix2 b d) = IntOp.ori (P (ix2 b d)) (IntOp.cmpi .slt (K (ix2 b d)) (IntOp.minsi (IntOp.muli (N (ix2 b 0)) 3#32) 8732#32)) := by
  pointwise [kept]

theorem confSum_at (ce : FVec Ideal S32x8732 .f32) (k : IVec S32x8732 1) :
    confSum ce k ix0 = ∑ b : Fin 32, ∑ d : Fin 8732, ce (ix2 b d) * (((k (ix2 b d)).toNat : ℝ) : EReal) := by
  pointwise [confSum]
  rfl

theorem largest_at (cn : FVec Ideal S32x8732 .f32) (b : Fin 32) :
    largest cn (ix1 b) = Finset.univ.fold max (Ideal.ofBits .f32 0xFF800000#32) (fun d : Fin 8732 => cn (ix2 b d)) := by
  pointwise [largest]

theorem largestSum_at (x : FVec Ideal S32 .f32) : largestSum x ix0 = ∑ b : Fin 32, x (ix1 b) := by
  pointwise [largestSum]

theorem close_at (A6 : FVec Ideal S1x1 .f32) (X Y N : FVec Ideal S_ .f32) :
    close A6 X Y N (ix2 0 0) = BitVec.ofBool (decide (max (A6 (ix2 0 0) - Ideal.div (X ix0) (N ix0)) (-(A6 (ix2 0 0) - Ideal.div (X ix0) (N ix0)))
      ≤ Ideal.div (Ideal.ofBits .f32 0x36887000#32 * Y ix0) (N ix0))) := by
  pointwise [close]
  rfl

end Cert.PostTerm
end
-- ==== Proof.KernelConf.lean ====
/- The kernel's confidence loss stages, read at an index. -/
module

public import proofs.«01_k».proof.Proof.KernelPoint

@[expose] public section

set_option maxRecDepth 16384

noncomputable section

namespace Cert.KernelIdeal.Value

open Idealize.ShloMosaic Idealize.ShloMosaic.TcCoe Cert.KernelIdeal Cert.KernelIdeal.Gen Cert.Match

/-- The cross entropy: the logarithm of the exponentials' sum less the logit of the class. -/
theorem pay1_at (a : FVec Ideal S81x8732 .f32) (b c : FVec Ideal S1x8732 .f32) (d : Fin 8732) :
    k0_pay1 a b c (ix2 0 d)
      = b (ix2 0 d) - ∑ x : Fin 81, Scalar.select (IntOp.cmpi .eq (BitVec.ofNat 32 x.val) (Ideal.fptosi 32 (c (ix2 0 d)))) (a (ix2 x d)) 0 := by
  pointwise [k0_pay1]
  rfl

/-- The negative anchors' cross entropy, -/
theorem pay2_at (p : IVec S1x8732 1) (a : FVec Ideal S81x8732 .f32) (b c : FVec Ideal S1x8732 .f32) (d : Fin 8732) :
    k0_pay2 p a b c (ix2 0 d) = Scalar.select (p (ix2 0 d)) 0 (k0_pay1 a b c (ix2 0 d)) := by
  unfold k0_pay2
  generalize k0_pay1 a b c = z
  pointwise []

/-- and the matched anchors', summed. -/
theorem aux_conf (p : IVec S1x8732 1) (l : FVec Ideal S1x1 .f32) (a : FVec Ideal S81x8732 .f32) (b c : FVec Ideal S1x8732 .f32) :
    k0_pay3 p l a b c (ix2 0 2) = ∑ d : Fin 8732, Scalar.select (p (ix2 0 d)) (k0_pay1 a b c (ix2 0 d)) 0 := by
  unfold k0_pay3
  generalize k0_pay1 a b c = z
  pointwise []
  simp

/-- The logarithm of the exponentials' sum. -/
theorem pay46_at (x4 : Vec Ideal S1x81x8732 .bf16) (d : Fin 8732) :
    k0_pay46 x4 (ix2 0 d) = Ideal.log (∑ q : Fin 81, Ideal.exp (x4 (ix3 0 q d))) := by
  pointwise [k0_pay46, k0_pay45]

theorem pay45_at (x4 : Vec Ideal S1x81x8732 .bf16) (q : Fin 81) (d : Fin 8732) :
    k0_pay45 x4 (ix2 q d) = x4 (ix3 0 q d) := by
  pointwise [k0_pay45]

theorem pay47_at (p : IVec S1x8732 1) (v : FVec Ideal S1x8732 .f32) (d : Fin 8732) :
    k0_pay47 p v (ix2 0 d) = Scalar.select (p (ix2 0 d)) (v (ix2 0 d)) 0 := by
  pointwise [k0_pay47]

theorem pay33_at (x1 : Vec Ideal S1x32x4 .f32) (x2 : Vec Ideal S1x32x1 .f32) (x0 : Vec Ideal S4x8732 .f32) (d : Fin 8732) :
    k0_pay33 (k0_pay17 x1) (k0_pay18 x2) (k0_pay24 x1 x0) rows (k0_pay26 x1 x0) (ix2 0 d) = x2 (ix3 0 (first (ratios x0 x1 d)) 0) := by
  refine Eq.trans ?_ (pay28_at x0 x1 x2 4 d)
  unfold k0_pay33
  generalize k0_pay28 (F := Ideal) _ _ _ _ _ = z
  pointwise []

/-- How many negative anchors an image keeps. -/
theorem pay8_at (A : Vec Ideal S32x3 .f32) (b : Fin 32) :
    k0_pay8 A (ix2 b 0) = min (A (ix2 b 0) * Ideal.ofBits .f32 0x40400000#32) (Ideal.ofBits .f32 0x46087000#32) := by
  pointwise [k0_pay8, k0_pay7]

/-- The bisection's upper end at first, -/
theorem pay9_at (S : Vec Ideal S32x8732 .f32) (b : Fin 32) :
    k0_pay9 S (ix2 b 0) = Finset.univ.fold max (Ideal.ofBits .f32 0xFF800000#32) (fun d : Fin 8732 => S (ix2 b d)) := by
  pointwise [k0_pay9]

/-- how many entries lie above a threshold, as the kernel adds them, -/
def count (S : Vec Ideal S32x8732 .f32) (b : Fin 32) (t : EReal) : EReal :=
  ∑ x : Fin 8732, FloatOps.sitofp (F := Ideal) .f32 (BitVec.setWidth 32 (BitVec.ofBool (decide (t < S (ix2 b x)))))

/-- the middle of the two ends, -/
def mid (l h : EReal) : EReal := Ideal.ofBits .f32 0x3F000000#32 * (l + h)

/-- one step of the bisection, -/
theorem pay13_at (S : Vec Ideal S32x8732 .f32) (A : Vec Ideal S32x3 .f32) (l h : FVec Ideal S32x1 .f32) (b : Fin 32) :
    k0_pay13 S A l h (ix2 b 0)
      = if k0_pay8 A (ix2 b 0) ≤ count S b (mid (l (ix2 b 0)) (h (ix2 b 0))) then mid (l (ix2 b 0)) (h (ix2 b 0)) else l (ix2 b 0) := by
  unfold k0_pay13 k0_pay12
  generalize k0_pay8 A = K
  pointwise [k0_pay11]
  rfl
theorem pay14_at (S : Vec Ideal S32x8732 .f32) (A : Vec Ideal S32x3 .f32) (l h : FVec Ideal S32x1 .f32) (b : Fin 32) :
    k0_pay14 S A l h (ix2 b 0)
      = if k0_pay8 A (ix2 b 0) ≤ count S b (mid (l (ix2 b 0)) (h (ix2 b 0))) then h (ix2 b 0) else mid (l (ix2 b 0)) (h (ix2 b 0)) := by
  unfold k0_pay14 k0_pay12
  generalize k0_pay8 A = K
  pointwise [k0_pay11]
  rfl

/-- the sum above a threshold, and the threshold in place of what is missing, -/
def topv (S : Vec Ideal S32x8732 .f32) (b : Fin 32) (k t : EReal) : EReal :=
  (∑ x : Fin 8732, if t < S (ix2 b x) then S (ix2 b x) else 0) + (k - count S b t) * t

/-- and the second result. -/
theorem conf_at (S : Vec Ideal S32x8732 .f32) (A : Vec Ideal S32x3 .f32) (l h : FVec Ideal S32x1 .f32) :
    k0_pay6 (k0_pay7 A) (k0_pay15 S A l h) (ix2 0 0)
      = Ideal.div ((∑ b, A (ix2 b 2)) + ∑ b, topv S b (k0_pay8 A (ix2 b 0)) (mid (l (ix2 b 0)) (h (ix2 b 0)))) (max (∑ b, A (ix2 b 0)) 1) := by
  unfold k0_pay15
  generalize k0_pay8 A = K
  pointwise [k0_pay6, k0_pay4, k0_pay7]
  simp only [Finset.univ_unique, Finset.sum_singleton]
  rfl

end Cert.KernelIdeal.Value
end
-- ==== Proof.Threshold.lean ====
/- The sum of the k largest of finitely many non-negative reals, from a threshold found by bisection. -/
module

public import Idealize.ShloMosaic.Lib.Pointwise

@[expose] public section

noncomputable section

namespace Cert.Threshold

variable {n : ℕ}

/-- How many entries lie above a threshold. -/
def above (s : Fin n → ℝ) (t : ℝ) : ℕ := (Finset.univ.filter fun i => t < s i).card

/-- The entries above a threshold, summed, and the threshold itself in place of the entries still missing. -/
def topSum (s : Fin n → ℝ) (k : ℕ) (t : ℝ) : ℝ := (∑ i, if t < s i then s i else 0) + ((k : ℝ) - above s t) * t

/-- One step of the bisection. -/
def step (s : Fin n → ℝ) (k : ℕ) (p : ℝ × ℝ) : ℝ × ℝ :=
  if k ≤ above s (1 / 2 * (p.1 + p.2)) then (1 / 2 * (p.1 + p.2), p.2) else (p.1, 1 / 2 * (p.1 + p.2))

/-- What every step keeps: the lower end is exceeded k times or zero, the upper end fewer than k times or the
    largest entry, and the distance halves. -/
structure Bracket (s : Fin n → ℝ) (k : ℕ) (M : ℝ) (j : ℕ) (p : ℝ × ℝ) : Prop where
  low : k ≤ above s p.1 ∨ p.1 = 0
  high : above s p.2 < k ∨ p.2 = M
  gap : p.2 - p.1 = M / 2 ^ j

theorem bracket_step (s : Fin n → ℝ) (k : ℕ) (M : ℝ) (j : ℕ) (p : ℝ × ℝ) (h : Bracket s k M j p) :
    Bracket s k M (j + 1) (step s k p) := by
  have hg := h.gap
  have e : M / 2 ^ (j + 1) = (p.2 - p.1) / 2 := by rw [hg, pow_succ]; field_simp
  unfold step
  split
  · exact ⟨.inl ‹_›, h.high, by rw [e]; ring⟩
  · exact ⟨h.low, .inl (not_le.mp ‹_›), by rw [e]; ring⟩

theorem bracket_steps (s : Fin n → ℝ) (k : ℕ) (M : ℝ) (j : ℕ) : Bracket s k M j ((step s k)^[j] (0, M)) := by
  induction j with
  | zero => exact ⟨.inr rfl, .inr rfl, by simp⟩
  | succ j ih => rw [Function.iterate_succ_apply']; exact bracket_step s k M j _ ih

/-- A set of k entries, none below an entry outside it, lies at or above the lower end, -/
theorem low_le (s : Fin n → ℝ) (k : ℕ) (A : Finset (Fin n)) (hc : A.card = k) (hA : ∀ i ∈ A, ∀ j ∉ A, s j ≤ s i)
    (h0 : ∀ i, 0 ≤ s i) (lo : ℝ) (h : k ≤ above s lo ∨ lo = 0) (i : Fin n) (hi : i ∈ A) : lo ≤ s i := by
  rcases h with h | rfl
  · by_contra hn
    have hsub : (Finset.univ.filter fun j => lo < s j) ⊆ A.erase i := by
      intro j hj
      have hj' : lo < s j := (Finset.mem_filter.mp hj).2
      refine Finset.mem_erase.mpr ⟨fun e => ?_, ?_⟩
      · subst e; exact hn (le_of_lt hj')
      · by_contra hjA
        exact hn (le_trans (le_of_lt hj') (hA i hi j hjA))
    have := Finset.card_le_card hsub
    rw [Finset.card_erase_of_mem hi, hc] at this
    have hp : 0 < A.card := Finset.card_pos.mpr ⟨i, hi⟩
    unfold above at h
    omega
  · exact h0 i

/-- and the entries outside it at or below the upper end. -/
theorem le_high (s : Fin n → ℝ) (k : ℕ) (A : Finset (Fin n)) (hc : A.card = k) (hA : ∀ i ∈ A, ∀ j ∉ A, s j ≤ s i)
    (M : ℝ) (hM : ∀ i, s i ≤ M) (hi : ℝ) (h : above s hi < k ∨ hi = M) (j : Fin n) (hj : j ∉ A) : s j ≤ hi := by
  rcases h with h | rfl
  · by_contra hn
    have hsub : A ⊆ Finset.univ.filter fun i => hi < s i := fun i hiA =>
      Finset.mem_filter.mpr ⟨Finset.mem_univ _, lt_of_lt_of_le (not_le.mp hn) (hA i hiA j hj)⟩
    have := Finset.card_le_card hsub
    unfold above at h
    omega
  · exact hM j

/-- The difference from the sum over such a set, entry by entry. -/
theorem topSum_sub (s : Fin n → ℝ) (k : ℕ) (A : Finset (Fin n)) (hc : A.card = k) (t : ℝ) :
    topSum s k t - ∑ i ∈ A, s i = ∑ i, ((if t < s i then s i - t else 0) - (if i ∈ A then s i - t else 0)) := by
  have e1 : ∀ i, (if t < s i then s i - t else 0) = (if t < s i then s i else 0) - (if t < s i then (1 : ℝ) else 0) * t := by
    intro i; split <;> simp
  have e2 : (∑ i, if t < s i then (1 : ℝ) else 0) = above s t := by
    rw [Finset.sum_boole]; rfl
  have e3 : (∑ i, if i ∈ A then s i - t else 0) = (∑ i ∈ A, s i) - k * t := by
    rw [Finset.sum_ite_mem, Finset.univ_inter, Finset.sum_sub_distrib, Finset.sum_const, hc, nsmul_eq_mul]
  rw [Finset.sum_sub_distrib, e3]
  simp only [e1]
  rw [Finset.sum_sub_distrib, ← Finset.sum_mul, e2]
  unfold topSum
  ring

/-- After `j` steps the midpoint's sum is at least the sum over such a set, and exceeds it by no more than
    `n · M / 2^(j+1)`. -/
theorem topSum_near (s : Fin n → ℝ) (k : ℕ) (A : Finset (Fin n)) (hc : A.card = k) (hA : ∀ i ∈ A, ∀ j ∉ A, s j ≤ s i)
    (h0 : ∀ i, 0 ≤ s i) (M : ℝ) (hM0 : 0 ≤ M) (hM : ∀ i, s i ≤ M) (j : ℕ) (p : ℝ × ℝ) (h : Bracket s k M j p) :
    ∑ i ∈ A, s i ≤ topSum s k (1 / 2 * (p.1 + p.2))
      ∧ topSum s k (1 / 2 * (p.1 + p.2)) ≤ ∑ i ∈ A, s i + n * (M / 2 ^ (j + 1)) := by
  have hg := h.gap
  have hpos : 0 ≤ M / 2 ^ j := by positivity
  have e : M / 2 ^ (j + 1) = (p.2 - p.1) / 2 := by rw [hg, pow_succ]; field_simp
  set t := 1 / 2 * (p.1 + p.2) with ht
  have hterm : ∀ i, 0 ≤ (if t < s i then s i - t else 0) - (if i ∈ A then s i - t else 0)
      ∧ (if t < s i then s i - t else 0) - (if i ∈ A then s i - t else 0) ≤ M / 2 ^ (j + 1) := by
    intro i
    by_cases hi : i ∈ A
    · have := low_le s k A hc hA h0 p.1 h.low i hi
      rw [if_pos hi, e]
      split
      · constructor <;> linarith
      · constructor <;> linarith
    · have := le_high s k A hc hA M hM p.2 h.high i hi
      rw [if_neg hi, e]
      split
      · constructor <;> linarith
      · constructor <;> linarith
  have hd := topSum_sub s k A hc t
  have hl : 0 ≤ topSum s k t - ∑ i ∈ A, s i := by rw [hd]; exact Finset.sum_nonneg fun i _ => (hterm i).1
  have hu : topSum s k t - ∑ i ∈ A, s i ≤ n * (M / 2 ^ (j + 1)) := by
    rw [hd]
    refine (Finset.sum_le_card_nsmul _ _ _ fun i _ => (hterm i).2).trans ?_
    rw [Finset.card_univ, Fintype.card_fin, nsmul_eq_mul]
  constructor <;> linarith

end Cert.Threshold
end
-- ==== Proof.KernelBisect.lean ====
/- The kernel's second result over the reals. -/
module

public import proofs.«01_k».proof.Proof.KernelConf
public import proofs.«01_k».proof.Proof.Threshold
public import proofs.«01_k».proof.Proof.Entropy

@[expose] public section

set_option maxRecDepth 16384

noncomputable section

namespace Cert.KernelIdeal.Value

open Idealize.ShloMosaic Idealize.ShloMosaic.TcCoe Cert.KernelIdeal Cert.KernelIdeal.Gen Cert.Match Cert.Threshold

/-- One half, three and 8732 as reals. -/
theorem half_real : Ideal.ofBits .f32 0x3F000000#32 = ((1 / 2 : ℝ) : EReal) := by
  simp [Ideal.ofBits, Ideal.ieee]
  rw [← EReal.coe_mul]
  norm_num
theorem three_real : Ideal.ofBits .f32 0x40400000#32 = ((3 : ℝ) : EReal) := by
  simp [Ideal.ofBits, Ideal.ieee]
  rw [← EReal.coe_mul]
  norm_num
theorem anchors_real : Ideal.ofBits .f32 0x46087000#32 = ((8732 : ℝ) : EReal) := by
  simp [Ideal.ofBits, Ideal.ieee]
  rw [← EReal.coe_mul]
  norm_num

/-- A quotient of reals. -/
theorem div_real (x y : ℝ) (h : y ≠ 0) : Ideal.div (x : EReal) (y : EReal) = ((x / y : ℝ) : EReal) := by
  rw [Ideal.div_coe h, ← EReal.coe_mul]
  congr 1
  field_simp

theorem mid_real (l h : ℝ) : mid (l : EReal) (h : EReal) = ((1 / 2 * (l + h) : ℝ) : EReal) := by
  unfold mid
  rw [half_real, ← EReal.coe_add, ← EReal.coe_mul]

section Rows

variable (S : Vec Ideal S32x8732 .f32) (A : Vec Ideal S32x3 .f32) (s : Fin 32 → Fin 8732 → ℝ) (n : Fin 32 → ℕ)
  (hS : ∀ b d, S (ix2 b d) = (s b d : EReal)) (hA : ∀ b, A (ix2 b 0) = ((n b : ℝ) : EReal))

include hS in
/-- The kernel's count of the entries above a threshold. -/
theorem count_real (b : Fin 32) (t : ℝ) : count S b (t : EReal) = ((above (s b) t : ℝ) : EReal) := by
  have e : ∀ x : Fin 8732, FloatOps.sitofp (F := Ideal) .f32 (BitVec.setWidth 32 (BitVec.ofBool (decide ((t : EReal) < S (ix2 b x)))))
      = (((if t < s b x then 1 else 0 : ℝ)) : EReal) := by
    intro x
    rw [hS]
    show (((BitVec.setWidth 32 (BitVec.ofBool (decide ((t : EReal) < (s b x : EReal))))).toInt : ℝ) : EReal) = _
    by_cases h : t < s b x
    · have h' : (t : EReal) < (s b x : EReal) := EReal.coe_lt_coe_iff.mpr h
      simp [h, h']
    · have h' : ¬ (t : EReal) < (s b x : EReal) := fun h' => h (EReal.coe_lt_coe_iff.mp h')
      simp [h, h']
  unfold count
  rw [Finset.sum_congr rfl fun x _ => e x, coe_sum, Finset.sum_boole]
  rfl

include hA in
/-- How many negative anchors are kept. -/
theorem keep_real (b : Fin 32) : k0_pay8 A (ix2 b 0) = ((min (n b * 3) 8732 : ℕ) : ℝ) := by
  rw [pay8_at, hA, three_real, anchors_real, ← EReal.coe_mul]
  have : ((min (n b * 3) 8732 : ℕ) : ℝ) = min ((n b : ℝ) * 3) 8732 := by push_cast; rfl
  rw [this]
  exact (EReal.coe_strictMono.monotone.map_min).symm

theorem pay10_at (b : Fin 32) : k0_pay10 (F := Ideal) (ix2 b 0) = ((0 : ℝ) : EReal) := by
  pointwise [k0_pay10]
  rfl

include hS hA in
/-- The two ends after every number of steps. -/
theorem steps_real (M : Fin 32 → ℝ) (hM : ∀ b, Finset.univ.fold max (Ideal.ofBits .f32 0xFF800000#32) (fun d : Fin 8732 => S (ix2 b d)) = (M b : EReal))
    (j : ℕ) (b : Fin 32) :
    ((halve S A)^[j] (k0_pay10, k0_pay9 S)).1 (ix2 b 0) = (((step (s b) (min (n b * 3) 8732))^[j] (0, M b)).1 : EReal)
    ∧ ((halve S A)^[j] (k0_pay10, k0_pay9 S)).2 (ix2 b 0) = (((step (s b) (min (n b * 3) 8732))^[j] (0, M b)).2 : EReal) := by
  induction j with
  | zero =>
    rw [Function.iterate_zero_apply, Function.iterate_zero_apply]
    dsimp only
    refine ⟨pay10_at b, ?_⟩
    rw [pay9_at, hM]
  | succ j ih =>
    rw [Function.iterate_succ_apply', Function.iterate_succ_apply']
    generalize (halve S A)^[j] (k0_pay10, k0_pay9 S) = p at ih ⊢
    generalize (step (s b) (min (n b * 3) 8732))^[j] (0, M b) = q at ih ⊢
    obtain ⟨h1, h2⟩ := ih
    have hc : k0_pay8 A (ix2 b 0) ≤ count S b (mid (p.1 (ix2 b 0)) (p.2 (ix2 b 0))) ↔ min (n b * 3) 8732 ≤ above (s b) (1 / 2 * (q.1 + q.2)) := by
      rw [h1, h2, mid_real, count_real S s hS, keep_real A n hA, EReal.coe_le_coe_iff, Nat.cast_le]
    unfold halve step
    constructor
    · refine (pay13_at S A p.1 p.2 b).trans ?_
      by_cases h : min (n b * 3) 8732 ≤ above (s b) (1 / 2 * (q.1 + q.2))
      · rw [if_pos (hc.mpr h), if_pos h, h1, h2, mid_real]
      · rw [if_neg (fun h' => h (hc.mp h')), if_neg h, h1]
    · refine (pay14_at S A p.1 p.2 b).trans ?_
      by_cases h : min (n b * 3) 8732 ≤ above (s b) (1 / 2 * (q.1 + q.2))
      · rw [if_pos (hc.mpr h), if_pos h, h2]
      · rw [if_neg (fun h' => h (hc.mp h')), if_neg h, h1, h2, mid_real]

include hS in
/-- The sum above a threshold. -/
theorem topv_real (b : Fin 32) (t : ℝ) (k : ℕ) : topv S b ((k : ℝ) : EReal) (t : EReal) = (topSum (s b) k t : EReal) := by
  have e : ∀ x : Fin 8732, (if (t : EReal) < S (ix2 b x) then S (ix2 b x) else 0) = ((if t < s b x then s b x else 0 : ℝ) : EReal) := by
    intro x
    rw [hS]
    by_cases h : t < s b x
    · rw [if_pos (EReal.coe_lt_coe_iff.mpr h), if_pos h]
    · rw [if_neg (fun h' => h (EReal.coe_lt_coe_iff.mp h')), if_neg h]; rfl
  unfold topv
  rw [Finset.sum_congr rfl fun x _ => e x, coe_sum, count_real S s hS, ← EReal.coe_sub, ← EReal.coe_mul, ← EReal.coe_add]
  rfl

/-- The threshold of an image. -/
def threshold (s : Fin 8732 → ℝ) (k : ℕ) (M : ℝ) : ℝ := 1 / 2 * (((step s k)^[30] (0, M)).1 + ((step s k)^[30] (0, M)).2)

include hS hA in
/-- The second result. -/
theorem outC_real (M : Fin 32 → ℝ) (hM : ∀ b, Finset.univ.fold max (Ideal.ofBits .f32 0xFF800000#32) (fun d : Fin 8732 => S (ix2 b d)) = (M b : EReal))
    (Q : Fin 32 → ℝ) (hQ : ∀ b, A (ix2 b 2) = (Q b : EReal)) :
    outC S A (ix2 0 0)
      = (((∑ b, Q b + ∑ b, topSum (s b) (min (n b * 3) 8732) (threshold (s b) (min (n b * 3) 8732) (M b))) / max ((∑ b, n b : ℕ) : ℝ) 1 : ℝ) : EReal) := by
  have hb : ∀ b, topv S b (k0_pay8 A (ix2 b 0)) (mid ((brackets S A).1 (ix2 b 0)) ((brackets S A).2 (ix2 b 0)))
      = (topSum (s b) (min (n b * 3) 8732) (threshold (s b) (min (n b * 3) 8732) (M b)) : EReal) := by
    intro b
    have h := steps_real S A s n hS hA M hM 30 b
    unfold brackets
    rw [h.1, h.2, mid_real, keep_real A n hA, topv_real S s hS]
    rfl
  have hn : ∑ b, A (ix2 b 0) = (((∑ b, n b : ℕ) : ℝ) : EReal) := by
    rw [Finset.sum_congr rfl fun b _ => hA b, coe_sum, Nat.cast_sum]
  have hmax : max (((∑ b, n b : ℕ) : ℝ) : EReal) 1 = ((max ((∑ b, n b : ℕ) : ℝ) 1 : ℝ) : EReal) :=
    (EReal.coe_strictMono.monotone.map_max (a := ((∑ b, n b : ℕ) : ℝ)) (b := 1)).symm
  unfold outC
  rw [conf_at, Finset.sum_congr rfl fun b _ => hb b, Finset.sum_congr rfl fun b _ => hQ b, coe_sum, coe_sum, hn, hmax, ← EReal.coe_add, div_real]
  exact ne_of_gt (lt_of_lt_of_le one_pos (le_max_right _ _))

end Rows

end Cert.KernelIdeal.Value
end
-- ==== Proof.PostValue.lean ====
/- The postcondition on the second result over the reals. -/
module

public import proofs.«01_k».proof.Proof.PostPoint
public import proofs.«01_k».proof.Proof.KernelBisect

@[expose] public section

set_option maxRecDepth 16384

noncomputable section

namespace Cert.PostTerm

open Idealize.ShloMosaic Idealize.ShloMosaic.TcCoe Cert.Post_loss_c_close Cert.Post_loss_c_close.Facts Cert.Match
open Cert.RefTerm (hits hits_le counts counts_at total total_at)
open Cert.KernelIdeal.Value (div_real)

attribute [local instance] Cert.Post_loss_c_close.Witness.facts

/-- A small number as a signed word. -/
theorem toInt_word (n : ℕ) (h : n < 2 ^ 31) : (BitVec.ofNat 32 n).toInt = n := by
  have e : (BitVec.ofNat 32 n).toNat = n := by
    rw [BitVec.toNat_ofNat, Nat.mod_eq_of_lt (by omega)]
  rw [BitVec.toInt_eq_toNat_of_lt (by rw [e]; omega), e]

/-- Three times a count, at most 8732, as a word. -/
theorem keep_word (h : ℕ) (hh : h ≤ 8732) :
    IntOp.minsi (IntOp.muli (BitVec.ofNat 32 h) 3#32) 8732#32 = BitVec.ofNat 32 (min (h * 3) 8732) := by
  have e : IntOp.muli (BitVec.ofNat 32 h) 3#32 = BitVec.ofNat 32 (h * 3) := by
    rw [BitVec.ofNat_mul]; rfl
  have h8 : (8732#32 : BitVec 32).toInt = 8732 := by decide
  rw [e]
  simp only [IntOp.minsi, BitVec.slt, toInt_word (h * 3) (by omega), h8]
  by_cases hk : h * 3 < 8732
  · rw [min_eq_left (le_of_lt hk)]
    rw [decide_eq_true (by omega : ((h * 3 : ℕ) : ℤ) < 8732)]
    rfl
  · rw [min_eq_right (not_lt.mp hk)]
    rw [decide_eq_false (by omega : ¬ ((h * 3 : ℕ) : ℤ) < 8732)]
    rfl

theorem lt_word (p k : ℕ) (hp : p < 2 ^ 31) (hk : k < 2 ^ 31) :
    IntOp.cmpi .slt (BitVec.ofNat 32 p) (BitVec.ofNat 32 k) = BitVec.ofBool (decide (p < k)) := by
  simp only [IntOp.cmpi, BitVec.slt, toInt_word p hp, toInt_word k hk, Nat.cast_lt]

/-- The tolerance's factor. -/
theorem factor_real : Ideal.ofBits .f32 0x36887000#32 = ((8732 / 2 ^ 31 : ℝ) : EReal) := by
  simp [Ideal.ofBits, Ideal.ieee]
  rw [← EReal.coe_mul]
  norm_num

/-- Two quotients whose numerators are close. -/
theorem quotient_near (q x t y N : ℝ) (hN : 0 < N) (h1 : x ≤ t) (h2 : t ≤ x + y) :
    max ((q + t) / N - (q + x) / N) (-((q + t) / N - (q + x) / N)) ≤ y / N := by
  rw [← sub_div, ← neg_div]
  exact max_le ((div_le_div_iff_of_pos_right hN).mpr (by linarith)) ((div_le_div_iff_of_pos_right hN).mpr (by linarith))

/-- The images' bounds, summed. -/
theorem bound_sum (x M : Fin 32 → ℝ) :
    ∑ b, (x b + 8732 * (M b / 2 ^ 31)) = ∑ b, x b + 8732 / 2 ^ 31 * ∑ b, M b := by
  rw [Finset.sum_add_distrib, Finset.mul_sum]
  exact congrArg _ (Finset.sum_congr rfl fun b _ => by ring)

section Values

variable (P : IVec S32x8732 1) (ce : FVec Ideal S32x8732 .f32) (e : Fin 32 → Fin 8732 → ℝ)
  (he : ∀ b d, ce (ix2 b d) = (e b d : EReal))

/-- The cross entropy of an unmatched anchor, zero of a matched one; -/
def unmatched (b : Fin 32) (d : Fin 8732) : ℝ := if P (ix2 b d) = 1#1 then 0 else e b d

/-- the other way round; -/
def matched (b : Fin 32) (d : Fin 8732) : ℝ := if P (ix2 b d) = 1#1 then e b d else 0

/-- how many unmatched anchors an image keeps, -/
def keep (b : Fin 32) : ℕ := min (hits P b * 3) 8732

/-- and which. -/
def leads (b : Fin 32) : Finset (Fin 8732) := Rank.lead (fun d => -((unmatched P e b d : ℝ) : EReal)) (keep P b)

theorem leads_card (b : Fin 32) : (leads P e b).card = keep P b := Rank.lead_card _ _ (min_le_right _ _)

theorem leads_le (b : Fin 32) (i : Fin 8732) (hi : i ∈ leads P e b) (j : Fin 8732) (hj : j ∉ leads P e b) :
    unmatched P e b j ≤ unmatched P e b i := by
  have := Rank.lead_le _ _ i hi j hj
  rwa [EReal.neg_le_neg_iff, EReal.coe_le_coe_iff] at this

include he in
theorem negative_real (b : Fin 32) (d : Fin 8732) : negative P ce (ix2 b d) = ((unmatched P e b d : ℝ) : EReal) := by
  rw [negative_at, he]
  unfold unmatched
  rcases BitVec.eq_zero_or_eq_one (P (ix2 b d)) with h | h <;> rw [h] <;> simp [Scalar.select]

include he in
theorem ranks_real (b : Fin 32) (d : Fin 8732) :
    ranks (sorted (Host.negf (negative P ce))) (ix2 b d)
      = BitVec.ofNat 32 (Rank.place (fun d => -((unmatched P e b d : ℝ) : EReal)) d).val := by
  rw [ranks_at]
  have h : (fun d => Host.negf (negative P ce) (ix2 b d)) = fun d => -((unmatched P e b d : ℝ) : EReal) := by
    funext d
    show -(negative P ce (ix2 b d)) = _
    rw [negative_real P ce e he]
  rw [h]

include he in
/-- An anchor is kept where it is matched or among the leading unmatched ones. -/
theorem kept_real (b : Fin 32) (d : Fin 8732) :
    kept P (ranks (sorted (Host.negf (negative P ce)))) (counts P) (ix2 b d)
      = IntOp.ori (P (ix2 b d)) (BitVec.ofBool (decide (d ∈ leads P e b))) := by
  rw [kept_at, ranks_real P ce e he, counts_at, keep_word _ (hits_le P b), lt_word]
  · have : ((Rank.place (fun d => -((unmatched P e b d : ℝ) : EReal)) d).val < min (hits P b * 3) 8732) ↔ d ∈ leads P e b := by
      simp [leads, Rank.lead, keep]
    simp only [this]
  · exact lt_trans (Fin.isLt _) (by norm_num)
  · exact lt_of_le_of_lt (min_le_right _ _) (by norm_num)

include he in
/-- The confidence loss before its normalisation. -/
theorem confSum_real :
    confSum ce (kept P (ranks (sorted (Host.negf (negative P ce)))) (counts P)) ix0
      = ((∑ b, ∑ d, matched P e b d + ∑ b, ∑ d ∈ leads P e b, unmatched P e b d : ℝ) : EReal) := by
  have ht : ∀ b d, ce (ix2 b d) * (((kept P (ranks (sorted (Host.negf (negative P ce)))) (counts P) (ix2 b d)).toNat : ℝ) : EReal)
      = ((matched P e b d + (if d ∈ leads P e b then unmatched P e b d else 0) : ℝ) : EReal) := by
    intro b d
    rw [kept_real P ce e he, he, ← EReal.coe_mul]
    congr 1
    unfold matched unmatched
    rcases BitVec.eq_zero_or_eq_one (P (ix2 b d)) with h | h <;> rw [h] <;> by_cases hd : d ∈ leads P e b <;> simp [hd, IntOp.ori]
  rw [confSum_at]
  simp only [ht]
  have hr : ∀ b, ∑ d : Fin 8732, ((matched P e b d + (if d ∈ leads P e b then unmatched P e b d else 0) : ℝ) : EReal)
      = ((∑ d, matched P e b d + ∑ d ∈ leads P e b, unmatched P e b d : ℝ) : EReal) := by
    intro b
    rw [coe_sum, Finset.sum_add_distrib, Finset.sum_ite_mem, Finset.univ_inter]
  simp only [hr]
  rw [coe_sum, Finset.sum_add_distrib]

include he in
/-- A second result within the tolerance satisfies the postcondition. -/
theorem post_holds (A6 : FVec Ideal S1x1 .f32) (M T : Fin 32 → ℝ)
    (hM : ∀ b, Finset.univ.fold max (Ideal.ofBits .f32 0xFF800000#32) (fun d : Fin 8732 => ((unmatched P e b d : ℝ) : EReal)) = (M b : EReal))
    (hT : ∀ b, ∑ d ∈ leads P e b, unmatched P e b d ≤ T b ∧ T b ≤ ∑ d ∈ leads P e b, unmatched P e b d + 8732 * (M b / 2 ^ 31))
    (hO : A6 (ix2 0 0) = (((∑ b, ∑ d, matched P e b d + ∑ b, T b) / max ((∑ b, hits P b : ℕ) : ℝ) 1 : ℝ) : EReal)) :
    post A6 P ce (ix2 0 0) = 1#1 := by
  have hmax : max (((∑ b, hits P b : ℕ) : ℝ) : EReal) 1 = ((max ((∑ b, hits P b : ℕ) : ℝ) 1 : ℝ) : EReal) :=
    (EReal.coe_strictMono.monotone.map_max (a := ((∑ b, hits P b : ℕ) : ℝ)) (b := 1)).symm
  have hpos : 0 < max ((∑ b, hits P b : ℕ) : ℝ) 1 := lt_of_lt_of_le one_pos (le_max_right _ _)
  have hl : largestSum (largest (negative P ce)) ix0 = ((∑ b, M b : ℝ) : EReal) := by
    rw [largestSum_at]
    simp only [largest_at, negative_real P ce e he, hM]
    exact coe_sum _ _
  unfold post
  rw [close_at, confSum_real P ce e he, hl, total_at, hmax, hO, factor_real, ← EReal.coe_mul]
  generalize max ((∑ b, hits P b : ℕ) : ℝ) 1 = N at hpos
  rw [div_real _ _ (ne_of_gt hpos), div_real _ _ (ne_of_gt hpos), ← EReal.coe_sub, ← EReal.coe_neg,
    ← EReal.coe_strictMono.monotone.map_max]
  have h1 : ∑ b, ∑ d ∈ leads P e b, unmatched P e b d ≤ ∑ b, T b := Finset.sum_le_sum fun b _ => (hT b).1
  have h2 : ∑ b, T b ≤ ∑ b, ∑ d ∈ leads P e b, unmatched P e b d + 8732 / 2 ^ 31 * ∑ b, M b := by
    refine (Finset.sum_le_sum fun b _ => (hT b).2).trans (le_of_eq ?_)
    exact bound_sum _ M
  have h := EReal.coe_le_coe_iff.mpr (quotient_near (∑ b, ∑ d, matched P e b d) _ _ _ N hpos h1 h2)
  exact (congrArg BitVec.ofBool (decide_eq_true h)).trans (by decide)

end Values

end Cert.PostTerm
end
-- ==== Proof.SecondResult.lean ====
/- The kernel's second result, for labels that are classes and finite logits. -/
module

public import proofs.«01_k».proof.Proof.FirstResult
public import proofs.«01_k».proof.Proof.PostValue

@[expose] public section

set_option maxRecDepth 16384

noncomputable section

namespace Cert.KernelIdeal.Value

open Idealize.ShloMosaic Idealize.ShloMosaic.TcCoe Idealize.SL.Sem Cert.KernelIdeal Cert.KernelIdeal.Gen Cert.Match
open Cert.RefTerm (iou cls hits)

variable (m : (ℓ : Loc nD τ sig) → Buf (Elt Ideal) ℓ) (c : Dev nD)

/-- The anchors' classes, as the reference has them. -/
abbrev classes : IVec S32x8732 32 := cls (ious m c) (arg4 m c)

variable (hA : ∀ b k, 1 ≤ (arg4 m c (ix2 b k)).toInt ∧ (arg4 m c (ix2 b k)).toInt ≤ 80)
  (r : Fin 32 → Fin 8732 → Fin 81 → ℝ) (hr : ∀ b d q, arg1 m c (ix3 b d q) = (r b d q : EReal))

/-- A word between 0 and 80 is a class's number. -/
theorem class_word (w : BitVec 32) (h0 : 0 ≤ w.toInt) (h1 : w.toInt ≤ 80) : ∃ q : Fin 81, w = BitVec.ofNat 32 q.val := by
  have hn : w.toNat < 2 ^ 32 := w.isLt
  have e : w.toInt = w.toNat := by
    rw [BitVec.toInt_eq_toNat_cond] at h0 ⊢
    split at h0 <;> split <;> omega
  refine ⟨⟨w.toNat, by omega⟩, ?_⟩
  exact BitVec.eq_of_toNat_eq (by rw [BitVec.toNat_ofNat, Nat.mod_eq_of_lt hn])

include hA in
theorem class_exists (b : Fin 32) (d : Fin 8732) : ∃ q : Fin 81, classes m c (ix2 b d) = BitVec.ofNat 32 q.val := by
  unfold classes
  rw [RefTerm.cls_at]
  split
  · have := hA b (first fun k => ious m c (ix3 b k d))
    exact class_word _ (by omega) this.2
  · exact ⟨0, rfl⟩

/-- The class as the kernel reads it. -/
theorem clsv_blk (b : Fin 32) (d : Fin 8732) :
    clsv (iblk m c 0 (pt b)) (iblk m c 1 (pt b)) (iblk m c 2 (pt b)) (ix2 0 d) = (((classes m c (ix2 b d)).toInt : ℝ) : EReal) := by
  unfold clsv classes
  rw [pay47_at, pos_at, pay33_at, ratios_blk, blk2, RefTerm.cls_at]
  by_cases h : half ≤ top (fun k => ious m c (ix3 b k d))
  · rw [if_pos h, decide_eq_true h]; rfl
  · rw [if_neg h, decide_eq_false h]
    show (0 : EReal) = (((0#32 : BitVec 32).toInt : ℝ) : EReal)
    simp

include hr in
/-- The cross entropy as the kernel computes it. -/
theorem pay1_blk (b : Fin 32) (d : Fin 8732) (q : Fin 81) (hq : classes m c (ix2 b d) = BitVec.ofNat 32 q.val) :
    k0_pay1 (k0_pay45 (iblk m c 4 (pt b))) (k0_pay46 (iblk m c 4 (pt b))) (clsv (iblk m c 0 (pt b)) (iblk m c 1 (pt b)) (iblk m c 2 (pt b))) (ix2 0 d)
      = (Entropy.entropy (r b d) q : EReal) := by
  have hi : (((classes m c (ix2 b d)).toInt : ℝ) : EReal) = ((q.val : ℝ) : EReal) := by
    rw [hq, PostTerm.toInt_word _ (lt_trans q.isLt (by norm_num))]
    rfl
  rw [pay1_at, pay46_at, clsv_blk, hi]
  simp only [pay45_at, blk4, hr]
  exact Entropy.kernel_form (r b d) q

section Tables

variable (cf : Fin 32 → Fin 8732 → Fin 81) (hcf : ∀ b d, classes m c (ix2 b d) = BitVec.ofNat 32 (cf b d).val)

/-- The cross entropies. -/
def entropies (b : Fin 32) (d : Fin 8732) : ℝ := Entropy.entropy (r b d) (cf b d)

include hA in
theorem labels_positive (b k : Fin 32) : 0 < (arg4 m c (ix2 b k)).toInt := by
  have := hA b k; omega

include hA hr hcf in
/-- The kept unmatched cross entropies, -/
theorem tabS_real (b : Fin 32) (d : Fin 8732) :
    tabS m c (ix2 b d) = ((PostTerm.unmatched (matched m c) (entropies r cf) b d : ℝ) : EReal) := by
  show cenAt m c b (ix2 0 d) = _
  unfold cenAt cenv
  rw [pay2_at, pay1_blk m c r hr b d _ (hcf b d), pos_blk m c (labels_positive m c hA)]
  unfold PostTerm.unmatched
  rcases BitVec.eq_zero_or_eq_one (matched m c (ix2 b d)) with h | h <;> rw [h] <;> simp [Scalar.select, entropies]

include hA hr hcf in
/-- and the matched ones, summed. -/
theorem tabA_conf (b : Fin 32) :
    tabA m c (ix2 b 2) = ((∑ d, PostTerm.matched (matched m c) (entropies r cf) b d : ℝ) : EReal) := by
  show auxAt m c b (ix2 0 2) = _
  unfold auxAt auxv
  rw [aux_conf, ← coe_sum]
  refine Finset.sum_congr rfl fun d _ => ?_
  rw [pay1_blk m c r hr b d _ (hcf b d), pos_blk m c (labels_positive m c hA)]
  unfold PostTerm.matched
  rcases BitVec.eq_zero_or_eq_one (matched m c (ix2 b d)) with h | h <;> rw [h] <;> simp [Scalar.select, entropies]

include hA hr hcf in
/-- The second result satisfies the postcondition. -/
theorem outC_close :
    PostTerm.post (outC (tabS m c) (tabA m c)) (matched m c)
      (PostTerm.entropy (PostTerm.logSoftmax (arg1 m c))
        (broadcastInDim Cert.Post_loss_c_close.S32x8732x1 ![0, 1] Cert.Post_loss_c_close.Witness.facts.bcast_S32x8732_S32x8732x1_0_1 (classes m c)))
      (ix2 0 0) = 1#1 := by
  set s := PostTerm.unmatched (matched m c) (entropies r cf) with hs
  have h0 : ∀ b d, 0 ≤ s b d := by
    intro b d
    rw [hs]
    unfold PostTerm.unmatched
    split
    · exact le_rfl
    · exact Entropy.entropy_nonneg _ _
  choose M hM hle hex using fun b => Entropy.fold_real (s b)
  have hM0 : ∀ b, 0 ≤ M b := fun b => (h0 b 0).trans (hle b 0)
  refine PostTerm.post_holds _ _ (entropies r cf) (fun b d => PostTerm.entropy_at (arg1 m c) (classes m c) b d (r b d) (hr b d) _ (hcf b d)) _ M
    (fun b => Threshold.topSum (s b) (min (hits (matched m c) b * 3) 8732) (threshold (s b) (min (hits (matched m c) b * 3) 8732) (M b))) hM ?_ ?_
  · intro b
    have := Threshold.topSum_near (s b) _ (PostTerm.leads (matched m c) (entropies r cf) b) (PostTerm.leads_card _ _ b)
      (fun i hi j hj => PostTerm.leads_le _ _ b i hi j hj) (h0 b) (M b) (hM0 b) (hle b) 30 _
      (Threshold.bracket_steps (s b) (PostTerm.keep (matched m c) b) (M b) 30)
    exact_mod_cast this
  · refine outC_real (tabS m c) (tabA m c) s (hits (matched m c)) (tabS_real m c hA r hr cf hcf) (tabA_count m c (labels_positive m c hA)) M ?_ _
      (tabA_conf m c hA r hr cf hcf)
    intro b
    simp only [tabS_real m c hA r hr cf hcf]
    exact hM b

end Tables

end Cert.KernelIdeal.Value
end
-- ==== Proof.RefRun.lean ====
/- The reference's run: every execution ends with the arguments unchanged, the semaphores at zero and the first
   result as its stages state. -/
module

public import proofs.«01_k».proof.Proof.RefTerm
public import Idealize.ShloMosaic.Lib.Claim
public import Idealize.ShloMosaic.Lib.Quiescent

@[expose] public section

set_option maxRecDepth 16384

noncomputable section

namespace Cert.RefTerm

open Idealize.ShloMosaic Idealize.ShloMosaic.TcCoe Idealize.SL.Sem Cert.ReferenceIdeal Cert.ReferenceIdeal.Gen

variable {F : FTy → Type} [FloatOps F]

set_option maxHeartbeats 6400000 in
/-- The reference ends with its arguments as they were and every semaphore at zero, -/
theorem frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  hlo_run
  · exact fun _ => ⟨trivial, trivial, trivial, trivial, trivial⟩
  · exact sem_eq_zero_of_no_sems (sig := sig) rfl _

set_option maxHeartbeats 12800000 in
/-- and its first result as stated. -/
theorem run_first (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v146)
        = lossL (m ((c.tc : Thread nD τ).loc main_arg0)) (m ((c.tc : Thread nD τ).loc main_arg2)) (m ((c.tc : Thread nD τ).loc main_arg3))
            (m ((c.tc : Thread nD τ).loc main_arg4))) := by
  hlo_run
  rfl

end Cert.RefTerm
end
-- ==== Proof.Claims.lean ====
/- The claims: the frames, the equality of the first result, and the bound on the second. -/
module

public import proofs.«01_k».proof.Defs
public import proofs.«01_k».proof.Proof.SameProgram
public import proofs.«01_k».proof.Proof.Gen.Pre_labels_positive
public import proofs.«01_k».proof.Proof.Gen.On_first_result
public import proofs.«01_k».proof.Proof.FirstResult
public import proofs.«01_k».proof.Proof.PreFacts
public import proofs.«01_k».proof.Proof.SecondResult
public import Idealize.ShloMosaic.Lib.ReduceAll
public import proofs.«01_k».proof.Proof.RefRun

@[expose] public section

set_option maxRecDepth 16384

noncomputable section

namespace Cert.Claims

open Idealize.ShloMosaic Idealize.ShloMosaic.TcCoe Idealize.SL.Sem

attribute [local instance] Cert.Kernel.Gen.facts Cert.KernelIdeal.Gen.facts Cert.ReferenceIdeal.Gen.facts Cert.Pre_labels_positive.Gen.facts
  Cert.On_first_result.Gen.facts Cert.Pre_labels_and_logits.Witness.facts Cert.Post_loss_c_close.Witness.facts

/-- The kernel ends with its arguments unchanged and its semaphores at zero, -/
theorem frame_p : Cert.quiescent_Kernel := Cert.SameProgram.frame
/-- so does its idealization, -/
theorem frame_pi : Cert.quiescent_KernelIdeal := fun m ρ _ => Cert.KernelIdeal.Value.frame m ρ
theorem frame_pi_pre : Cert.quiescent_KernelIdeal_pre_labels_positive := fun m ρ _ => Cert.KernelIdeal.Value.frame m ρ
theorem frame_pi_pre2 : Cert.quiescent_KernelIdeal_pre_labels_and_logits := fun m ρ _ => Cert.KernelIdeal.Value.frame m ρ
/-- and the reference's. -/
theorem frame_ri : Cert.quiescent_ReferenceIdeal := fun m ρ _ => Cert.RefTerm.frame m ρ
theorem frame_ri_pre : Cert.quiescent_ReferenceIdeal_pre_labels_positive := fun m ρ _ => Cert.RefTerm.frame m ρ

/-- The precondition, read: every label is positive. -/
theorem labels_pos (x0 : FVec Ideal Cert.Pre_labels_positive.S32x8732x4 .f32) (x1 : FVec Ideal Cert.Pre_labels_positive.S32x8732x81 .f32)
    (x2 : FVec Ideal Cert.Pre_labels_positive.S8732x4 .f32) (x3 : FVec Ideal Cert.Pre_labels_positive.S32x32x4 .f32)
    (x4 : IVec Cert.Pre_labels_positive.S32x32 32) (h : Cert.Pre_labels_positive.fn x0 x1 x2 x3 x4 = fun _ => 1#1) (b k : Fin 32) :
    0 < (x4 (ix2 b k)).toInt := by
  have e : IntOp.cmpi .sge (x4 (ix2 b k)) 1#32 = 1#1 := congrFun h (ix2 b k)
  generalize x4 (ix2 b k) = w at e
  have h1 : (1#32 : BitVec 32).toInt = 1 := by decide
  by_contra hn
  have : IntOp.cmpi .sge w 1#32 = 0#1 := by
    simp only [IntOp.cmpi, BitVec.sle, h1]
    have : ¬ (1 ≤ w.toInt) := by omega
    simp [this]
  rw [this] at e
  exact absurd e (by decide)

/-- The mask selects nothing of the second result. -/
theorem mask_second (x0 : FVec Ideal Cert.On_first_result.S32x8732x4 .f32) (x1 : FVec Ideal Cert.On_first_result.S32x8732x81 .f32)
    (x2 : FVec Ideal Cert.On_first_result.S8732x4 .f32) (x3 : FVec Ideal Cert.On_first_result.S32x32x4 .f32)
    (x4 : IVec Cert.On_first_result.S32x32 32) (i : Cert.On_first_result.S1x1.Idx) :
    (Cert.On_first_result.fn x0 x1 x2 x3 x4).2 i ≠ 1#1 := by
  show (0#1 : BitVec 1) ≠ 1#1
  decide

/-- The kernel's run, its first result read. -/
theorem run_kernel (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r =>
      ∀ c : Dev Cert.KernelIdeal.nD, r.2.mem ((c.tc : Thread Cert.KernelIdeal.nD Cert.KernelIdeal.τ).loc Cert.KernelIdeal.main_v6_0)
        = Cert.KernelIdeal.Value.outL (Cert.KernelIdeal.Value.tabA m c)) :=
  (θ_run Cert.KernelIdeal.defs _ _).mono (fun _ h c => ((h c).1 5).trans (Cert.KernelIdeal.Value.arr5 m c))
    (Cert.KernelIdeal.Value.run_main m ρ)

/-- The first results agree. -/
theorem algebraic : Cert.algebraic_KernelIdeal_ReferenceIdeal_on_first_result_pre_labels_positive := by
  intro m ρ m' ρ' hpre hagree
  refine ⟨fun c => Cert.KernelIdeal.Value.outL (Cert.KernelIdeal.Value.tabA m c), fun c => fun _ => (0 : EReal), ?_, ?_⟩
  · exact (θ_run Cert.KernelIdeal.defs _ _).mono
      (fun _ h c => ⟨fun i _ => congrFun (h.1 c) i, fun i hi => absurd hi (mask_second _ _ _ _ _ i), h.2.1 c⟩)
      (θ_run_and (run_kernel m ρ) (Cert.KernelIdeal.Value.frame m ρ))
  · refine (θ_run Cert.ReferenceIdeal.defs _ _).mono
      (fun _ h c => ⟨fun i _ => congrFun ((h.1 c).trans ?_) i, fun i hi => absurd hi (mask_second _ _ _ _ _ i), h.2.1 c⟩)
      (θ_run_and (Cert.RefTerm.run_first m' ρ') (Cert.RefTerm.frame m' ρ'))
    obtain ⟨a0, a1, a2, a3, a4⟩ := hagree c
    rw [a0, a2, a3, a4]
    exact (Cert.KernelIdeal.Value.outL_eq m c (fun b k => labels_pos _ _ _ _ _ (hpre c) b k)).symm

instance : Subsingleton Cert.Pre_labels_and_logits.S_.Idx := ⟨fun a b => funext fun i => i.elim0⟩

/-- A number whose absolute value is below infinity is real. -/
theorem real_of_abs (x : EReal) (h : max x (-x) < ⊤) : ∃ y : ℝ, x = (y : EReal) := by
  induction x using EReal.rec with
  | bot => simp at h
  | top => simp at h
  | coe y => exact ⟨y, rfl⟩

/-- The precondition, read: every label is a class and every logit a real number. -/
theorem labels_logits (x0 : FVec Ideal Cert.Pre_labels_and_logits.S32x8732x4 .f32) (x1 : FVec Ideal Cert.Pre_labels_and_logits.S32x8732x81 .f32)
    (x2 : FVec Ideal Cert.Pre_labels_and_logits.S8732x4 .f32) (x3 : FVec Ideal Cert.Pre_labels_and_logits.S32x32x4 .f32)
    (x4 : IVec Cert.Pre_labels_and_logits.S32x32 32) (h : Cert.Pre_labels_and_logits.fn x0 x1 x2 x3 x4 = fun _ => 1#1) :
    (∀ b k : Fin 32, 1 ≤ (x4 (ix2 b k)).toInt ∧ (x4 (ix2 b k)).toInt ≤ 80)
      ∧ ∀ (b : Fin 32) (d : Fin 8732) (q : Fin 81), ∃ y : ℝ, x1 (ix3 b d q) = (y : EReal) := by
  obtain ⟨hl, hf⟩ := IntOp.andi_eq_one.1 (congrFun h ix0)
  refine ⟨fun b k => ?_, fun b d q => ?_⟩
  · have e := Host.reduce_andi_all _ _ _ _ ix0 hl (ix2 b k)
    obtain ⟨e1, e2⟩ := IntOp.andi_eq_one.1 e
    have h1 : (1#32 : BitVec 32).toInt = 1 := by decide
    have h80 : (80#32 : BitVec 32).toInt = 80 := by decide
    have e1' := IntOp.cmpi_sge.1 e1
    have e2' := IntOp.cmpi_sle.1 e2
    exact ⟨h1 ▸ e1', h80 ▸ e2'⟩
  · have e := Host.reduce_andi_all _ _ _ _ ix0 hf (ix3 b d q)
    have e' : BitVec.ofBool (decide (max (x1 (ix3 b d q)) (-x1 (ix3 b d q)) < Ideal.ofBits .f32 0x7F800000#32)) = 1#1 := e
    have hinf : Ideal.ofBits .f32 0x7F800000#32 = ⊤ := by simp [Ideal.ofBits, Ideal.ieee]
    rw [hinf] at e'
    refine real_of_abs _ ?_
    by_contra hn
    rw [decide_eq_false hn] at e'
    exact absurd e' (by decide)

/-- The kernel's run, its second result read. -/
theorem run_second (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r =>
      ∀ c : Dev Cert.KernelIdeal.nD, r.2.mem ((c.tc : Thread Cert.KernelIdeal.nD Cert.KernelIdeal.τ).loc Cert.KernelIdeal.main_v6_1)
        = Cert.KernelIdeal.Value.outC (Cert.KernelIdeal.Value.tabS m c) (Cert.KernelIdeal.Value.tabA m c)) :=
  (θ_run Cert.KernelIdeal.defs _ _).mono (fun _ h c => ((h c).1 6).trans (Cert.KernelIdeal.Value.arr6 m c))
    (Cert.KernelIdeal.Value.run_main m ρ)

/-- The second result lies within the bisection's tolerance. -/
theorem close : Cert.holds_KernelIdeal_loss_c_close_pre_labels_and_logits := by
  intro m ρ hpre
  refine (θ_run Cert.KernelIdeal.defs _ _).mono (fun r h c => ?_)
    (θ_run_and (run_second m ρ) (Cert.KernelIdeal.Value.frame m ρ))
  obtain ⟨a0, a1, a2, a3, a4⟩ := h.2.1 c
  refine ⟨a0, a1, a2, a3, a4, ?_⟩
  obtain ⟨hA, hx⟩ := labels_logits _ _ _ _ _ (hpre c)
  choose y hy using hx
  choose cf hcf using Cert.KernelIdeal.Value.class_exists m c hA
  rw [h.1 c, Cert.PostTerm.fn_eq]
  funext j
  have hj : j = ix2 0 0 := by
    funext a
    match a with
    | ⟨0, _⟩ => exact Subsingleton.elim (α := Fin 1) _ _
    | ⟨1, _⟩ => exact Subsingleton.elim (α := Fin 1) _ _
  rw [hj]
  exact Cert.KernelIdeal.Value.outC_close m c hA y hy cf hcf

end Cert.Claims
end
-- ==== Proof.lean ====
module

public import proofs.«01_k».proof.Defs
public import proofs.«01_k».proof.Proof.Claims

@[expose] public section

noncomputable section

namespace Cert.Proof

theorem claim : Cert.Claim :=
  ⟨Cert.Kernel.Gen.facts, Cert.KernelIdeal.Gen.facts, Cert.ReferenceIdeal.Gen.facts, Cert.Pre_labels_positive.Gen.facts,
    Cert.Pre_labels_and_logits.Witness.facts, Cert.Post_loss_c_close.Witness.facts, Cert.On_first_result.Gen.facts,
    Cert.Claims.frame_p, Cert.Claims.frame_pi, Cert.Claims.frame_pi_pre, Cert.Claims.frame_pi_pre2, Cert.Claims.frame_ri, Cert.Claims.frame_ri_pre,
    trivial, Cert.Claims.algebraic, Cert.Claims.close⟩

end Cert.Proof

end
